-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![1, 4096, 1024]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 1024, 8, 128]⟩ ⟨4, ![1, 4096, 8, 128]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 1024, 8, 128]⟩ ⟨4, ![1, 4096, 8, 128]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 1024, 1024]⟩ ⟨3, ![1, 4096, 1024]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v47) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S1x1024x1024 : Shape := ⟨3, ![1, 1024, 1024]⟩
abbrev S1024x1024 : Shape := ⟨2, ![1024, 1024]⟩
abbrev S1x1024x8x128 : Shape := ⟨4, ![1, 1024, 8, 128]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1024x8x128 : S_.BroadcastsInDim S1x1024x8x128 (![] : Fin 0 → Fin S1x1024x8x128.rank)
  reducesTo_S1x1024x8x128_S_d0_1_2_3 : S1x1024x8x128.ReducesTo [0, 1, 2, 3] S_

variable [Facts]

def fn {F : FTy → Type} [FloatOps F] (main_arg0 : FVec F S1x1024x1024 .bf16) (main_arg1 : FVec F S1024x1024 .bf16) (main_arg2 : FVec F S1x1024x8x128 .bf16) (main_arg3 : FVec F S1x1024x8x128 .bf16) (main_arg4 : FVec F S1024x1024 .bf16) : IVec S_ 1 :=
  let main_v0 : FVec F S1x1024x1024 .bf16 := Host.absf main_arg0
  let main_cst : FVec F S_ .bf16 := constant S_ .bf16 0x7F80#16
  let main_v1 : FVec F S1x1024x1024 .bf16 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  let main_v4 : FVec F S1024x1024 .bf16 := Host.absf main_arg1
  let main_cst_0 : FVec F S_ .bf16 := constant S_ .bf16 0x7F80#16
  let main_v5 : FVec F S1024x1024 .bf16 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x1024x8x128 .bf16 := Host.absf main_arg2
  let main_cst_2 : FVec F S_ .bf16 := constant S_ .bf16 0x7F80#16
  let main_v10 : FVec F S1x1024x8x128 .bf16 := broadcastInDim S1x1024x8x128 ![] bcast_S_S1x1024x8x128 main_cst_2
  let main_v11 : IVec S1x1024x8x128 1 := cmpf .olt main_v9 main_v10
  let main_c_3 : IVec S_ 1 := constantI S_ 1 1#1
  let main_v12 : IVec S_ 1 := (fun x v => Host.reduce IntOp.andi x v reducesTo_S1x1024x8x128_S_d0_1_2_3 h_S_) main_v11 main_c_3
  let main_v13 : IVec S_ 1 := andi main_v8 main_v12
  main_v13
-- ==== Pre_finite_scores_ReferenceIdeal.lean ====
abbrev S1x4096x1024 : Shape := ⟨3, ![1, 4096, 1024]⟩
abbrev S1024x1024 : Shape := ⟨2, ![1024, 1024]⟩
abbrev S1x4096x8x128 : Shape := ⟨4, ![1, 4096, 8, 128]⟩
abbrev S_ : Shape := ⟨0, ![]⟩

class Facts : Prop where
  bcast_S_S1x4096x1024 : S_.BroadcastsInDim S1x4096x1024 (![] : Fin 0 → Fin S1x4096x1024.rank)
  reducesTo_S1x4096x1024_S_d0_1_2 : S1x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x4096x8x128 : S_.BroadcastsInDim S1x4096x8x128 (![] : Fin 0 → Fin S1x4096x8x128.rank)
  reducesTo_S1x4096x8x128_S_d0_1_2_3 : S1x4096x8x128.ReducesTo [0, 1, 2, 3] S_

variable [Facts]

def fn {F : FTy → Type} [FloatOps F] (main_arg0 : FVec F S1x4096x1024 .bf16) (main_arg1 : FVec F S1024x1024 .bf16) (main_arg2 : FVec F S1x4096x8x128 .bf16) (main_arg3 : FVec F S1x4096x8x128 .bf16) (main_arg4 : FVec F S1024x1024 .bf16) : IVec S_ 1 :=
  let main_v0 : FVec F S1x4096x1024 .bf16 := Host.absf main_arg0
  let main_cst : FVec F S_ .bf16 := constant S_ .bf16 0x7F80#16
  let main_v1 : FVec F S1x4096x1024 .bf16 := broadcastInDim S1x4096x1024 ![] bcast_S_S1x4096x1024 main_cst
  let main_v2 : IVec S1x4096x1024 1 := cmpf .olt main_v0 main_v1
  let main_c : IVec S_ 1 := constantI S_ 1 1#1
  let main_v3 : IVec S_ 1 := (fun x v => Host.reduce IntOp.andi x v reducesTo_S1x4096x1024_S_d0_1_2 h_S_) main_v2 main_c
  let main_v4 : FVec F S1024x1024 .bf16 := Host.absf main_arg1
  let main_cst_0 : FVec F S_ .bf16 := constant S_ .bf16 0x7F80#16
  let main_v5 : FVec F S1024x1024 .bf16 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x4096x8x128 .bf16 := Host.absf main_arg2
  let main_cst_2 : FVec F S_ .bf16 := constant S_ .bf16 0x7F80#16
  let main_v10 : FVec F S1x4096x8x128 .bf16 := broadcastInDim S1x4096x8x128 ![] bcast_S_S1x4096x8x128 main_cst_2
  let main_v11 : IVec S1x4096x8x128 1 := cmpf .olt main_v9 main_v10
  let main_c_3 : IVec S_ 1 := constantI S_ 1 1#1
  let main_v12 : IVec S_ 1 := (fun x v => Host.reduce IntOp.andi x v reducesTo_S1x4096x8x128_S_d0_1_2_3 h_S_) main_v11 main_c_3
  let main_v13 : IVec S_ 1 := andi main_v8 main_v12
  main_v13
-- ==== Kernel.lean ====
abbrev S1x1024x1024 : Shape := ⟨3, ![1, 1024, 1024]⟩
abbrev S1024x1024 : Shape := ⟨2, ![1024, 1024]⟩
abbrev S1x1024x8x128 : Shape := ⟨4, ![1, 1024, 8, 128]⟩
abbrev S4096x2048 : Shape := ⟨2, ![4096, 2048]⟩
abbrev S3 : Shape := ⟨1, ![3]⟩
abbrev S_ : Shape := ⟨0, ![]⟩
abbrev S1024x8x128 : Shape := ⟨3, ![1024, 8, 128]⟩
abbrev S1 : Shape := ⟨1, ![1]⟩
abbrev S1024x2048 : Shape := ⟨2, ![1024, 2048]⟩
abbrev S1024x1 : Shape := ⟨2, ![1024, 1]⟩
abbrev S1x1024 : Shape := ⟨2, ![1, 1024]⟩
abbrev S1024x128 : Shape := ⟨2, ![1024, 128]⟩
abbrev S1024 : Shape := ⟨1, ![1024]⟩

abbrev nBuf : Space → Nat
  | .hbm => 6
  | .vmem => 11
  | .smem => 0
  | _ => 0

abbrev bufTy : (tb : Table) → Fin (tcTables nBuf tb) → BufTy
  | .hbm, ⟨0, _⟩ => ⟨S1x1024x1024, .bf16⟩
  | .hbm, ⟨1, _⟩ => ⟨S1024x1024, .bf16⟩
  | .hbm, ⟨2, _⟩ => ⟨S1x1024x8x128, .bf16⟩
  | .hbm, ⟨3, _⟩ => ⟨S1x1024x8x128, .bf16⟩
  | .hbm, ⟨4, _⟩ => ⟨S1024x1024, .bf16⟩
  | .hbm, ⟨5, _⟩ => ⟨S1x1024x1024, .f32⟩
  | .local _ .vmem, ⟨0, _⟩ => ⟨S1x1024x1024, .bf16⟩
  | .local _ .vmem, ⟨1, _⟩ => ⟨S1024x1024, .bf16⟩
  | .local _ .vmem, ⟨2, _⟩ => ⟨S1x1024x8x128, .bf16⟩
  | .local _ .vmem, ⟨3, _⟩ => ⟨S1x1024x8x128, .bf16⟩
  | .local _ .vmem, ⟨4, _⟩ => ⟨S1024x1024, .bf16⟩
  | .local _ .vmem, ⟨5, _⟩ => ⟨S1x1024x1024, .f32⟩
  | .local _ .vmem, ⟨6, _⟩ => ⟨S4096x2048, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S1x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  (ofTc nBuf bufTy 1 12 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_4 : BitVec 32 := 1#32
  let v8 : BitVec 32 := Scalar.muli v4 c1_i32_4
  let v9 : BitVec 32 := Scalar.addi c0_i32 v8
  v9.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_6 : BitVec 32 := 1#32
  let v10 : BitVec 32 := Scalar.muli v6 c1_i32_6
  let v11 : BitVec 32 := Scalar.addi c0_i32_7 v10
  v11.toNat
def k0_dev3 (d0 : Dev nD) : Nat :=
  let c0_i32_21 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_20 : BitVec 32 := 1#32
  let v24 : BitVec 32 := Scalar.muli v6 c1_i32_20
  let v25 : BitVec 32 := Scalar.addi c0_i32_21 v24
  v25.toNat
@[reducible] def k0_t1_loop : Scf.Loop 32 :=
  let c0_i32_59 : BitVec 32 := 0#32
  let c8_i32 : BitVec 32 := 8#32
  let v128 : BitVec 32 := Scalar.addi c0_i32_59 c8_i32
  let c1_i32_60 : BitVec 32 := 1#32
  ⟨c0_i32_59, v128, c1_i32_60⟩
def k0_off1 (k0_t1 : Fin k0_t1_loop.trips) : Fin 2 → Nat :=
  let c0_229 : Index := 0#32
  let c0_i32_59 : BitVec 32 := 0#32
  let c1_i32_60 : BitVec 32 := 1#32
  let arg13 : BitVec 32 := Scf.iv c0_i32_59 c1_i32_60 k0_t1
  let c128_i32 : BitVec 32 := 128#32
  let v441 : BitVec 32 := Scalar.muli arg13 c128_i32
  let v442 : Index := Scalar.indexCast v441
  ![0, v442.toNat]
def k0_off2 (k0_t1 : Fin k0_t1_loop.trips) : Fin 2 → Nat :=
  let c0_230 : Index := 0#32
  let c0_i32_59 : BitVec 32 := 0#32
  let c1_i32_60 : BitVec 32 := 1#32
  let arg13 : BitVec 32 := Scf.iv c0_i32_59 c1_i32_60 k0_t1
  let c128_i32 : BitVec 32 := 128#32
  let v441 : BitVec 32 := Scalar.muli arg13 c128_i32
  let v444 : Index := Scalar.indexCast v441
  ![0, v444.toNat]
def k0_off3 (k0_t1 : Fin k0_t1_loop.trips) : Fin 2 → Nat :=
  let c0_237 : Index := 0#32
  let c1024_i32_236 : BitVec 32 := 1024#32
  let c0_i32_59 : BitVec 32 := 0#32
  let c1_i32_60 : BitVec 32 := 1#32
  let arg13 : BitVec 32 := Scf.iv c0_i32_59 c1_i32_60 k0_t1
  let c128_i32_235 : BitVec 32 := 128#32
  let v454 : BitVec 32 := Scalar.muli arg13 c128_i32_235
  let v455 : BitVec 32 := Scalar.addi c1024_i32_236 v454
  let v456 : Index := Scalar.indexCast v455
  ![0, v456.toNat]
def k0_dev4 (d0 : Dev nD) : Nat :=
  let c0_i32_80 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_79 : BitVec 32 := 1#32
  let v139 : BitVec 32 := Scalar.muli v6 c1_i32_79
  let v140 : BitVec 32 := Scalar.addi c0_i32_80 v139
  v140.toNat
@[reducible] def k0_t2_loop : Scf.Loop 32 :=
  let c0_i32_112 : BitVec 32 := 0#32
  let c8_i32_113 : BitVec 32 := 8#32
  let v232 : BitVec 32 := Scalar.addi c0_i32_112 c8_i32_113
  let c1_i32_114 : BitVec 32 := 1#32
  ⟨c0_i32_112, v232, c1_i32_114⟩
def k0_off4 (k0_t2 : Fin k0_t2_loop.trips) : Fin 2 → Nat :=
  let c0_229 : Index := 0#32
  let c0_i32_112 : BitVec 32 := 0#32
  let c1_i32_114 : BitVec 32 := 1#32
  let arg13 : BitVec 32 := Scf.iv c0_i32_112 c1_i32_114 k0_t2
  let c128_i32 : BitVec 32 := 128#32
  let v441 : BitVec 32 := Scalar.muli arg13 c128_i32
  let v442 : Index := Scalar.indexCast v441
  ![0, v442.toNat]
def k0_off5 (k0_t2 : Fin k0_t2_loop.trips) : Fin 2 → Nat :=
  let c1024_230 : Index := 1024#32
  let c0_i32_112 : BitVec 32 := 0#32
  let c1_i32_114 : BitVec 32 := 1#32
  let arg13 : BitVec 32 := Scf.iv c0_i32_112 c1_i32_114 k0_t2
  let c128_i32 : BitVec 32 := 128#32
  let v441 : BitVec 32 := Scalar.muli arg13 c128_i32
  let v444 : Index := Scalar.indexCast v441
  ![1024, v444.toNat]
def k0_off6 (k0_t2 : Fin k0_t2_loop.trips) : Fin 2 → Nat :=
  let c1024_237 : Index := 1024#32
  let c1024_i32_236 : BitVec 32 := 1024#32
  let c0_i32_112 : BitVec 32 := 0#32
  let c1_i32_114 : BitVec 32 := 1#32
  let arg13 : BitVec 32 := Scf.iv c0_i32_112 c1_i32_114 k0_t2
  let c128_i32_235 : BitVec 32 := 128#32
  let v454 : BitVec 32 := Scalar.muli arg13 c128_i32_235
  let v455 : BitVec 32 := Scalar.addi c1024_i32_236 v454
  let v456 : Index := Scalar.indexCast v455
  ![1024, v456.toNat]
def k0_dev5 (d0 : Dev nD) : Nat :=
  let c0_i32_134 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_133 : BitVec 32 := 1#32
  let v243 : BitVec 32 := Scalar.muli v6 c1_i32_133
  let v244 : BitVec 32 := Scalar.addi c0_i32_134 v243
  v244.toNat
@[reducible] def k0_t3_loop : Scf.Loop 32 :=
  let c0_i32_166 : BitVec 32 := 0#32
  let c8_i32_167 : BitVec 32 := 8#32
  let v336 : BitVec 32 := Scalar.addi c0_i32_166 c8_i32_167
  let c1_i32_168 : BitVec 32 := 1#32
  ⟨c0_i32_166, v336, c1_i32_168⟩
def k0_off7 (k0_t3 : Fin k0_t3_loop.trips) : Fin 2 → Nat :=
  let c0_229 : Index := 0#32
  let c0_i32_166 : BitVec 32 := 0#32
  let c1_i32_168 : BitVec 32 := 1#32
  let arg13 : BitVec 32 := Scf.iv c0_i32_166 c1_i32_168 k0_t3
  let c128_i32 : BitVec 32 := 128#32
  let v441 : BitVec 32 := Scalar.muli arg13 c128_i32
  let v442 : Index := Scalar.indexCast v441
  ![0, v442.toNat]
def k0_off8 (k0_t3 : Fin k0_t3_loop.trips) : Fin 2 → Nat :=
  let c2048 : Index := 2048#32
  let c0_i32_166 : BitVec 32 := 0#32
  let c1_i32_168 : BitVec 32 := 1#32
  let arg13 : BitVec 32 := Scf.iv c0_i32_166 c1_i32_168 k0_t3
  let c128_i32 : BitVec 32 := 128#32
  let v441 : BitVec 32 := Scalar.muli arg13 c128_i32
  let v444 : Index := Scalar.indexCast v441
  ![2048, v444.toNat]
def k0_off9 (k0_t3 : Fin k0_t3_loop.trips) : Fin 2 → Nat :=
  let c2048_236 : Index := 2048#32
  let c1024_i32_235 : BitVec 32 := 1024#32
  let c0_i32_166 : BitVec 32 := 0#32
  let c1_i32_168 : BitVec 32 := 1#32
  let arg13 : BitVec 32 := Scf.iv c0_i32_166 c1_i32_168 k0_t3
  let c128_i32_234 : BitVec 32 := 128#32
  let v454 : BitVec 32 := Scalar.muli arg13 c128_i32_234
  let v455 : BitVec 32 := Scalar.addi c1024_i32_235 v454
  let v456 : Index := Scalar.indexCast v455
  ![2048, v456.toNat]
@[reducible] def k0_t4_loop : Scf.Loop 32 :=
  let c0_i32_213 : BitVec 32 := 0#32
  let c8_i32_214 : BitVec 32 := 8#32
  let v432 : BitVec 32 := Scalar.addi c0_i32_213 c8_i32_214
  let c1_i32_215 : BitVec 32 := 1#32
  ⟨c0_i32_213, v432, c1_i32_215⟩
def k0_off10 (k0_t4 : Fin k0_t4_loop.trips) : Fin 2 → Nat :=
  let c0_229 : Index := 0#32
  let c0_i32_213 : BitVec 32 := 0#32
  let c1_i32_215 : BitVec 32 := 1#32
  let arg13 : BitVec 32 := Scf.iv c0_i32_213 c1_i32_215 k0_t4
  let c128_i32 : BitVec 32 := 128#32
  let v441 : BitVec 32 := Scalar.muli arg13 c128_i32
  let v442 : Index := Scalar.indexCast v441
  ![0, v442.toNat]
def k0_off11 (k0_t4 : Fin k0_t4_loop.trips) : Fin 2 → Nat :=
  let c3072 : Index := 3072#32
  let c0_i32_213 : BitVec 32 := 0#32
  let c1_i32_215 : BitVec 32 := 1#32
  let arg13 : BitVec 32 := Scf.iv c0_i32_213 c1_i32_215 k0_t4
  let c128_i32 : BitVec 32 := 128#32
  let v441 : BitVec 32 := Scalar.muli arg13 c128_i32
  let v444 : Index := Scalar.indexCast v441
  ![3072, v444.toNat]
def k0_off12 (k0_t4 : Fin k0_t4_loop.trips) : Fin 2 → Nat :=
  let c3072_236 : Index := 3072#32
  let c1024_i32_235 : BitVec 32 := 1024#32
  let c0_i32_213 : BitVec 32 := 0#32
  let c1_i32_215 : BitVec 32 := 1#32
  let arg13 : BitVec 32 := Scf.iv c0_i32_213 c1_i32_215 k0_t4
  let c128_i32_234 : BitVec 32 := 128#32
  let v454 : BitVec 32 := Scalar.muli arg13 c128_i32_234
  let v455 : BitVec 32 := Scalar.addi c1024_i32_235 v454
  let v456 : Index := Scalar.indexCast v455
  ![3072, v456.toNat]
@[reducible] def k0_t5_loop : Scf.Loop 32 :=
  let c0_i32_217 : BitVec 32 := 0#32
  let c8_i32_218 : BitVec 32 := 8#32
  let v433 : BitVec 32 := Scalar.addi c0_i32_217 c8_i32_218
  let c1_i32_219 : BitVec 32 := 1#32
  ⟨c0_i32_217, v433, c1_i32_219⟩
def k0_off13 (k0_t5 : Fin k0_t5_loop.trips) : Fin 2 → Nat :=
  let c0_229 : Index := 0#32
  let c0_i32_217 : BitVec 32 := 0#32
  let c1_i32_219 : BitVec 32 := 1#32
  let arg13 : BitVec 32 := Scf.iv c0_i32_217 c1_i32_219 k0_t5
  let c128_i32 : BitVec 32 := 128#32
  let v441 : BitVec 32 := Scalar.muli arg13 c128_i32
  let v442 : Index := Scalar.indexCast v441
  ![0, v442.toNat]
abbrev stage0_0 : Fin 1 → Memref sig .tc .vmem S1x1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024x8x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024x8x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1x4096x1024 : Shape := ⟨3, ![1, 4096, 1024]⟩
abbrev S1024x1024 : Shape := ⟨2, ![1024, 1024]⟩
abbrev S1x4096x8x128 : Shape := ⟨4, ![1, 4096, 8, 128]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S1x8x4096x4096 : Shape := ⟨4, ![1, 8, 4096, 4096]⟩
abbrev S1x1x4096x4096 : Shape := ⟨4, ![1, 1, 4096, 4096]⟩
abbrev S1x8x4096 : Shape := ⟨3, ![1, 8, 4096]⟩
abbrev S1x8x4096x1 : Shape := ⟨4, ![1, 8, 4096, 1]⟩
abbrev S1x1x4096x1 : Shape := ⟨4, ![1, 1, 4096, 1]⟩
abbrev S1x8x128x4096 : Shape := ⟨4, ![1, 8, 128, 4096]⟩

abbrev nBuf : Space → Nat
  | .hbm => 126
  | .vmem => 0
  | .smem => 0
  | _ => 0

abbrev bufTy : (tb : Table) → Fin (tcTables nBuf tb) → BufTy
  | .hbm, ⟨0, _⟩ => ⟨S1x4096x1024, .bf16⟩
  | .hbm, ⟨1, _⟩ => ⟨S1024x1024, .bf16⟩
  | .hbm, ⟨2, _⟩ => ⟨S1x4096x8x128, .bf16⟩
  | .hbm, ⟨3, _⟩ => ⟨S1x4096x8x128, .bf16⟩
  | .hbm, ⟨4, _⟩ => ⟨S1024x1024, .bf16⟩
  | .hbm, ⟨5, _⟩ => ⟨S1x4096x1024, .f32⟩
  | .hbm, ⟨6, _⟩ => ⟨S1x4096x1024, .bf16⟩
  | .hbm, ⟨7, _⟩ => ⟨S1x4096x8x128, .bf16⟩
  | .hbm, ⟨8, _⟩ => ⟨S4096, .i32⟩
  | .hbm, ⟨9, _⟩ => ⟨S_, .i32⟩
  | .hbm, ⟨10, _⟩ => ⟨S_, .i32⟩
  | .hbm, ⟨11, _⟩ => ⟨S4096, .i32⟩
  | .hbm, ⟨12, _⟩ => ⟨S4096, .i32⟩
  | .hbm, ⟨13, _⟩ => ⟨S4096, .i32⟩
  | .hbm, ⟨14, _⟩ => ⟨S_, .i32⟩
  | .hbm, ⟨15, _⟩ => ⟨S4096, .i32⟩
  | .hbm, ⟨16, _⟩ => ⟨S4096, .i1⟩
  | .hbm, ⟨17, _⟩ => ⟨S4096, .i32⟩
  | .hbm, ⟨18, _⟩ => ⟨S4096, .i32⟩
  | .hbm, ⟨19, _⟩ => ⟨S_, .i32⟩
  | .hbm, ⟨20, _⟩ => ⟨S4096, .i32⟩
  | .hbm, ⟨21, _⟩ => ⟨S4096, .i1⟩
  | .hbm, ⟨22, _⟩ => ⟨S4096, .i1⟩
  | .hbm, ⟨23, _⟩ => ⟨S_, .i32⟩
  | .hbm, ⟨24, _⟩ => ⟨S4096, .i32⟩
  | .hbm, ⟨25, _⟩ => ⟨S4096, .i32⟩
  | .hbm, ⟨26, _⟩ => ⟨S4096, .i32⟩
  | .hbm, ⟨27, _⟩ => ⟨S4096x1, .i32⟩
  | .hbm, ⟨28, _⟩ => ⟨S4096, .i32⟩
  | .hbm, ⟨29, _⟩ => ⟨S_, .i32⟩
  | .hbm, ⟨30, _⟩ => ⟨S_, .i32⟩
  | .hbm, ⟨31, _⟩ => ⟨S4096, .i32⟩
  | .hbm, ⟨32, _⟩ => ⟨S4096, .i32⟩
  | .hbm, ⟨33, _⟩ => ⟨S4096, .i32⟩
  | .hbm, ⟨34, _⟩ => ⟨S_, .i32⟩
  | .hbm, ⟨35, _⟩ => ⟨S4096, .i32⟩
  | .hbm, ⟨36, _⟩ => ⟨S4096, .i1⟩
  | .hbm, ⟨37, _⟩ => ⟨S4096, .i32⟩
  | .hbm, ⟨38, _⟩ => ⟨S4096, .i32⟩
  | .hbm, ⟨39, _⟩ => ⟨S_, .i32⟩
  | .hbm, ⟨40, _⟩ => ⟨S4096, .i32⟩
  | .hbm, ⟨41, _⟩ => ⟨S4096, .i1⟩
  | .hbm, ⟨42, _⟩ => ⟨S4096, .i1⟩
  | .hbm, ⟨43, _⟩ => ⟨S_, .i32⟩
  | .hbm, ⟨44, _⟩ => ⟨S4096, .i32⟩
  | .hbm, ⟨45, _⟩ => ⟨S4096, .i32⟩
  | .hbm, ⟨46, _⟩ => ⟨S4096, .i32⟩
  | .hbm, ⟨47, _⟩ => ⟨S1x4096, .i32⟩
  | .hbm, ⟨48, _⟩ => ⟨S4096x4096, .i32⟩
  | .hbm, ⟨49, _⟩ => ⟨S4096x4096, .i32⟩
  | .hbm, ⟨50, _⟩ => ⟨S4096x4096, .i1⟩
  | .hbm, ⟨51, _⟩ => ⟨S_, .i32⟩
  | .hbm, ⟨52, _⟩ => ⟨S1x4096, .i32⟩
  | .hbm, ⟨53, _⟩ => ⟨S1x4096, .i1⟩
  | .hbm, ⟨54, _⟩ => ⟨S4096x4096, .i1⟩
  | .hbm, ⟨55, _⟩ => ⟨S4096x4096, .i1⟩
  | .hbm, ⟨56, _⟩ => ⟨S4096x4096, .i32⟩
  | .hbm, ⟨57, _⟩ => ⟨S4096x4096, .i32⟩
  | .hbm, ⟨58, _⟩ => ⟨S4096x4096, .i32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S_, .i1⟩
  | .hbm, ⟨63, _⟩ => ⟨S_, .i32⟩
  | .hbm, ⟨64, _⟩ => ⟨S_, .i32⟩
  | .hbm, ⟨65, _⟩ => ⟨S4096x4096, .i32⟩
  | .hbm, ⟨66, _⟩ => ⟨S4096x4096, .i32⟩
  | .hbm, ⟨67, _⟩ => ⟨S_, .i32⟩
  | .hbm, ⟨68, _⟩ => ⟨S4096x4096, .i32⟩
  | .hbm, ⟨69, _⟩ => ⟨S4096x4096, .i1⟩
  | .hbm, ⟨70, _⟩ => ⟨S_, .i32⟩
  | .hbm, ⟨71, _⟩ => ⟨S4096x4096, .i32⟩
  | .hbm, ⟨72, _⟩ => ⟨S4096x4096, .i1⟩
  | .hbm, ⟨73, _⟩ => ⟨S_, .i32⟩
  | .hbm, ⟨74, _⟩ => ⟨S_, .i1⟩
  | .hbm, ⟨75, _⟩ => ⟨S4096x4096, .i1⟩
  | .hbm, ⟨76, _⟩ => ⟨S4096x4096, .i1⟩
  | .hbm, ⟨77, _⟩ => ⟨S4096x4096, .i1⟩
  | .hbm, ⟨78, _⟩ => ⟨S4096x4096, .i32⟩
  | .hbm, ⟨79, _⟩ => ⟨S4096x4096, .i32⟩
  | .hbm, ⟨80, _⟩ => ⟨S4096x4096, .i32⟩
  | .hbm, ⟨81, _⟩ => ⟨S_, .i32⟩
  | .hbm, ⟨82, _⟩ => ⟨S4096x4096, .i32⟩
  | .hbm, ⟨83, _⟩ => ⟨S4096x4096, .i1⟩
  | .hbm, ⟨84, _⟩ => ⟨S4096x4096, .i1⟩
  | .hbm, ⟨85, _⟩ => ⟨S1x8x4096x4096, .f32⟩
  | .hbm, ⟨86, _⟩ => ⟨S1x8x4096x4096, .bf16⟩
  | .hbm, ⟨87, _⟩ => ⟨S1x8x4096x4096, .f32⟩
  | .hbm, ⟨88, _⟩ => ⟨S_, .f32⟩
  | .hbm, ⟨89, _⟩ => ⟨S1x8x4096x4096, .f32⟩
  | .hbm, ⟨90, _⟩ => ⟨S1x8x4096x4096, .f32⟩
  | .hbm, ⟨91, _⟩ => ⟨S1x1x4096x4096, .i1⟩
  | .hbm, ⟨92, _⟩ => ⟨S_, .f32⟩
  | .hbm, ⟨93, _⟩ => ⟨S_, .f32⟩
  | .hbm, ⟨94, _⟩ => ⟨S1x8x4096x4096, .i1⟩
  | .hbm, ⟨95, _⟩ => ⟨S1x8x4096x4096, .f32⟩
  | .hbm, ⟨96, _⟩ => ⟨S1x8x4096x4096, .f32⟩
  | .hbm, ⟨97, _⟩ => ⟨S_, .f32⟩
  | .hbm, ⟨98, _⟩ => ⟨S1x8x4096, .f32⟩
  | .hbm, ⟨99, _⟩ => ⟨S1x8x4096x1, .f32⟩
  | .hbm, ⟨100, _⟩ => ⟨S1x8x4096x4096, .f32⟩
  | .hbm, ⟨101, _⟩ => ⟨S1x8x4096x4096, .f32⟩
  | .hbm, ⟨102, _⟩ => ⟨S1x8x4096x4096, .f32⟩
  | .hbm, ⟨103, _⟩ => ⟨S_, .i1⟩
  | .hbm, ⟨104, _⟩ => ⟨S4096, .i1⟩
  | .hbm, ⟨105, _⟩ => ⟨S1x1x4096x1, .i1⟩
  | .hbm, ⟨106, _⟩ => ⟨S_, .f32⟩
  | .hbm, ⟨107, _⟩ => ⟨S1x8x4096, .f32⟩
  | .hbm, ⟨108, _⟩ => ⟨S1x8x4096x1, .f32⟩
  | .hbm, ⟨109, _⟩ => ⟨S_, .f32⟩
  | .hbm, ⟨110, _⟩ => ⟨S_, .f32⟩
  | .hbm, ⟨111, _⟩ => ⟨S1x8x4096x1, .i1⟩
  | .hbm, ⟨112, _⟩ => ⟨S1x8x4096x1, .f32⟩
  | .hbm, ⟨113, _⟩ => ⟨S1x8x4096x1, .f32⟩
  | .hbm, ⟨114, _⟩ => ⟨S1x8x4096x4096, .f32⟩
  | .hbm, ⟨115, _⟩ => ⟨S1x8x4096x4096, .f32⟩
  | .hbm, ⟨116, _⟩ => ⟨S1x1x4096x1, .i1⟩
  | .hbm, ⟨117, _⟩ => ⟨S_, .f32⟩
  | .hbm, ⟨118, _⟩ => ⟨S_, .f32⟩
  | .hbm, ⟨119, _⟩ => ⟨S1x8x4096x4096, .i1⟩
  | .hbm, ⟨120, _⟩ => ⟨S1x8x4096x4096, .f32⟩
  | .hbm, ⟨121, _⟩ => ⟨S1x8x4096x4096, .f32⟩
  | .hbm, ⟨122, _⟩ => ⟨S1x8x128x4096, .f32⟩
  | .hbm, ⟨123, _⟩ => ⟨S1x4096x8x128, .f32⟩
  | .hbm, ⟨124, _⟩ => ⟨S1x4096x1024, .f32⟩
  | .hbm, ⟨125, _⟩ => ⟨S1x4096x1024, .f32⟩
  | _, _ => ⟨S1x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_c_1 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_c_2 : Ref sig .tc := ⟨.hbm, 59, rfl⟩
abbrev main_call2_v0 : Ref sig .tc := ⟨.hbm, 60, rfl⟩
abbrev main_call2_c : Ref sig .tc := ⟨.hbm, 61, rfl⟩
abbrev main_call2_v1 : Ref sig .tc := ⟨.hbm, 62, rfl⟩
abbrev main_call2_c_0 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_c_1 : Ref sig .tc := ⟨.hbm, 67, rfl⟩
abbrev main_call2_v5 : Ref sig .tc := ⟨.hbm, 68, rfl⟩
abbrev main_call2_v6 : Ref sig .tc := ⟨.hbm, 69, rfl⟩
abbrev main_call2_c_2 : Ref sig .tc := ⟨.hbm, 70, rfl⟩
abbrev main_call2_v7 : Ref sig .tc := ⟨.hbm, 71, rfl⟩
abbrev main_call2_v8 : Ref sig .tc := ⟨.hbm, 72, rfl⟩
abbrev main_call2_c_3 : Ref sig .tc := ⟨.hbm, 73, rfl⟩
abbrev main_call2_v9 : Ref sig .tc := ⟨.hbm, 74, rfl⟩
abbrev main_call2_v10 : Ref sig .tc := ⟨.hbm, 75, rfl⟩
abbrev main_call2_v11 : Ref sig .tc := ⟨.hbm, 76, rfl⟩
abbrev main_call2_v12 : Ref sig .tc := ⟨.hbm, 77, rfl⟩
abbrev main_call2_v13 : Ref sig .tc := ⟨.hbm, 78, rfl⟩
abbrev main_call2_v14 : Ref sig .tc := ⟨.hbm, 79, rfl⟩
abbrev main_v19 : Ref sig .tc := ⟨.hbm, 80, rfl⟩
abbrev main_c_3 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_v23 : Ref sig .tc := ⟨.hbm, 85, rfl⟩
abbrev main_v24 : Ref sig .tc := ⟨.hbm, 86, rfl⟩
abbrev main_v25 : Ref sig .tc := ⟨.hbm, 87, rfl⟩
abbrev main_cst : Ref sig .tc := ⟨.hbm, 88, rfl⟩
abbrev main_v26 : Ref sig .tc := ⟨.hbm, 89, rfl⟩
abbrev main_v27 : Ref sig .tc := ⟨.hbm, 90, rfl⟩
abbrev main_v28 : Ref sig .tc := ⟨.hbm, 91, rfl⟩
abbrev main_cst_4 : Ref sig .tc := ⟨.hbm, 92, rfl⟩
abbrev main_call3_v0 : Ref sig .tc := ⟨.hbm, 93, rfl⟩
abbrev main_call3_v1 : Ref sig .tc := ⟨.hbm, 94, rfl⟩
abbrev main_call3_v2 : Ref sig .tc := ⟨.hbm, 95, rfl⟩
abbrev main_v29 : Ref sig .tc := ⟨.hbm, 96, rfl⟩
abbrev main_cst_5 : Ref sig .tc := ⟨.hbm, 97, rfl⟩
abbrev main_v30 : Ref sig .tc := ⟨.hbm, 98, rfl⟩
abbrev main_v31 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_c_6 : Ref sig .tc := ⟨.hbm, 103, rfl⟩
abbrev main_v35 : Ref sig .tc := ⟨.hbm, 104, rfl⟩
abbrev main_v36 : Ref sig .tc := ⟨.hbm, 105, rfl⟩
abbrev main_cst_7 : Ref sig .tc := ⟨.hbm, 106, rfl⟩
abbrev main_v37 : Ref sig .tc := ⟨.hbm, 107, rfl⟩
abbrev main_v38 : Ref sig .tc := ⟨.hbm, 108, rfl⟩
abbrev main_cst_8 : Ref sig .tc := ⟨.hbm, 109, rfl⟩
abbrev main_call4_v0 : Ref sig .tc := ⟨.hbm, 110, rfl⟩
abbrev main_call4_v1 : Ref sig .tc := ⟨.hbm, 111, rfl⟩
abbrev main_call4_v2 : Ref sig .tc := ⟨.hbm, 112, rfl⟩
abbrev main_v39 : Ref sig .tc := ⟨.hbm, 113, rfl⟩
abbrev main_v40 : Ref sig .tc := ⟨.hbm, 114, rfl⟩
abbrev main_v41 : Ref sig .tc := ⟨.hbm, 115, rfl⟩
abbrev main_v42 : Ref sig .tc := ⟨.hbm, 116, rfl⟩
abbrev main_cst_9 : Ref sig .tc := ⟨.hbm, 117, rfl⟩
abbrev main_call5_v0 : Ref sig .tc := ⟨.hbm, 118, rfl⟩
abbrev main_call5_v1 : Ref sig .tc := ⟨.hbm, 119, rfl⟩
abbrev main_call5_v2 : Ref sig .tc := ⟨.hbm, 120, rfl⟩
abbrev main_v43 : Ref sig .tc := ⟨.hbm, 121, rfl⟩
abbrev main_v44 : Ref sig .tc := ⟨.hbm, 122, rfl⟩
abbrev main_v45 : Ref sig .tc := ⟨.hbm, 123, rfl⟩
abbrev main_v46 : Ref sig .tc := ⟨.hbm, 124, rfl⟩
abbrev main_v47 : Ref sig .tc := ⟨.hbm, 125, rfl⟩

abbrev nD : Nat := 1
abbrev τ : Topo := Topo.v7x

variable {F : FTy → Type} [FloatOps F]
-- ==== Proof.Proto.lean ====
/-
The ring protocol of the kernel, before any program is run: who signals whom, what every semaphore
stands for, what moves with it, and what each buffer holds when it moves.

Four devices stand in a ring. Device `c` keeps four slots of keys and values, each 1024 rows: slot 0 is
its own block, slot `j` the block of the device `j` steps before it. It tells both neighbours that it
has started (the runtime's barrier semaphore), and passes slot `h` to slot `h + 1` of the next device,
for `h = 0, 1, 2`. Seven semaphores per device take part:
  * the barrier, with one unit from each neighbour — the next device's unit hands over that device's slots 1, 2, 3;
  * three send semaphores — the sent half share of slot `h` comes back;
  * three receive semaphores — slot `h + 1` comes, filled.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Pointwise.Index

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The ghost state: the pipeline's own rounds beside the ring's. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The ring -/

set_option backward.proofsInPublic true in
/-- The next device. -/
def nxt (c : Dev nD) : Dev nD := ⟨(c.val + 1) % 4, Nat.mod_lt _ (by decide)⟩
set_option backward.proofsInPublic true in
/-- The device before. -/
def prv (c : Dev nD) : Dev nD := ⟨(c.val + 3) % 4, Nat.mod_lt _ (by decide)⟩
set_option backward.proofsInPublic true in
/-- The device `j` steps before. -/
def back (c : Dev nD) (j : ℕ) : Dev nD := ⟨(c.val + 3 * j) % 4, Nat.mod_lt _ (by decide)⟩

theorem prv_nxt (c : Dev nD) : prv (nxt c) = c := by revert c; decide
theorem nxt_prv (c : Dev nD) : nxt (prv c) = c := by revert c; decide
theorem back_zero (c : Dev nD) : back c 0 = c := by revert c; decide
theorem back_nxt (c : Dev nD) (j : ℕ) : back (nxt c) (j + 1) = back c j :=
  Fin.ext (by simp only [back, nxt]; omega)

/-- The ring as a permutation of the devices. -/
def ring : Dev nD ≃ Dev nD := ⟨nxt, prv, prv_nxt, nxt_prv⟩

theorem dev1_eq (c : Dev nD) : (⟨k0_dev1 c, k0_dev1_lt c⟩ : Dev nD) = prv c := Fin.ext (k0_dev1_eq c)
theorem dev2_eq (c : Dev nD) : (⟨k0_dev2 c, k0_dev2_lt c⟩ : Dev nD) = nxt c := Fin.ext (k0_dev2_eq c)
theorem dev3_eq (c : Dev nD) : (⟨k0_dev3 c, k0_dev3_lt c⟩ : Dev nD) = nxt c := Fin.ext (k0_dev3_eq c)
theorem dev4_eq (c : Dev nD) : (⟨k0_dev4 c, k0_dev4_lt c⟩ : Dev nD) = nxt c := Fin.ext (k0_dev4_eq c)
theorem dev5_eq (c : Dev nD) : (⟨k0_dev5 c, k0_dev5_lt c⟩ : Dev nD) = nxt c := Fin.ext (k0_dev5_eq c)

/-! ## The cells -/

/-- The runtime's barrier semaphore. -/
abbrev barS : Sem sig := (SemArray.scalar (sig.barrier 0 rfl) : Sems sig S_).sem
abbrev send0 : DmaSem sig := ((cc0_scratch5.slice (Rect.unit (s := S3) ![0] S1.size inb_S3_S1_0)).squeeze S_ squeezes_S1_S_).sem
abbrev send1 : DmaSem sig := ((cc0_scratch5.slice (Rect.unit (s := S3) ![1] S1.size inb_S3_S1_1)).squeeze S_ squeezes_S1_S_).sem
abbrev send2 : DmaSem sig := ((cc0_scratch5.slice (Rect.unit (s := S3) ![2] S1.size inb_S3_S1_2)).squeeze S_ squeezes_S1_S_).sem
abbrev recv0 : DmaSem sig := ((cc0_scratch6.slice (Rect.unit (s := S3) ![0] S1.size inb_S3_S1_0)).squeeze S_ squeezes_S1_S_).sem
abbrev recv1 : DmaSem sig := ((cc0_scratch6.slice (Rect.unit (s := S3) ![1] S1.size inb_S3_S1_1)).squeeze S_ squeezes_S1_S_).sem
abbrev recv2 : DmaSem sig := ((cc0_scratch6.slice (Rect.unit (s := S3) ![2] S1.size inb_S3_S1_2)).squeeze S_ squeezes_S1_S_).sem

/-- The ring's semaphores: the barrier, the three sends, the three receives. -/
abbrev csem : Fin 7 → SemLoc sig := fun
  | 0 => .reg barS | 1 => .dma send0 | 2 => .dma send1 | 3 => .dma send2 | 4 => .dma recv0 | 5 => .dma recv1 | 6 => .dma recv2
/-- Those of them the launch itself owns: all but the barrier. -/
abbrev osem : Fin 6 → SemLoc sig := fun
  | 0 => .dma send0 | 1 => .dma send1 | 2 => .dma send2 | 3 => .dma recv0 | 4 => .dma recv1 | 5 => .dma recv2

abbrev kcell (ck : Dev nD × Fin 7) : GSem nD τ sig := ((ck.1 : Thread nD τ), csem ck.2)

/-- Which of the seven a semaphore is; 7 for any other. -/
def kind (s : SemLoc sig) : Fin 8 :=
  if s = csem 0 then 0 else if s = csem 1 then 1 else if s = csem 2 then 2 else if s = csem 3 then 3
  else if s = csem 4 then 4 else if s = csem 5 then 5 else if s = csem 6 then 6 else 7

theorem kind_csem : ∀ k : Fin 7, kind (csem k) = k.castSucc := by decide
theorem csem_inj : Function.Injective csem := fun a b h => by
  have := congrArg kind h; rw [kind_csem, kind_csem] at this; exact Fin.castSucc_injective _ this
theorem kcell_inj : Function.Injective kcell := by
  rintro ⟨c, k⟩ ⟨c', k'⟩ h
  have h1 : c = c' := congrArg (fun g : GSem nD τ sig => g.1.1) h
  subst h1
  have h2 : k = k' := csem_inj (congrArg Prod.snd h : csem k = csem k')
  rw [h2]

/-! ## Contents -/

/-- The staged inputs of a device: `x`, `Wq`, its keys, its values, `Wo`. -/
def inX (c : Dev nD) : (cc0_stg0_0 : Ref sig .tc).ty.Contents (Elt F) :=
  (win0_0.blk (0 : Fin 1)).view.read (Elt F) (m ((c : Thread nD τ).loc main_arg0))
def inWq (c : Dev nD) : (cc0_stg1_0 : Ref sig .tc).ty.Contents (Elt F) :=
  (win0_1.blk (0 : Fin 1)).view.read (Elt F) (m ((c : Thread nD τ).loc main_arg1))
def inK (c : Dev nD) : (cc0_stg2_0 : Ref sig .tc).ty.Contents (Elt F) :=
  (win0_2.blk (0 : Fin 1)).view.read (Elt F) (m ((c : Thread nD τ).loc main_arg2))
def inV (c : Dev nD) : (cc0_stg3_0 : Ref sig .tc).ty.Contents (Elt F) :=
  (win0_3.blk (0 : Fin 1)).view.read (Elt F) (m ((c : Thread nD τ).loc main_arg3))
def inWo (c : Dev nD) : (cc0_stg4_0 : Ref sig .tc).ty.Contents (Elt F) :=
  (win0_4.blk (0 : Fin 1)).view.read (Elt F) (m ((c : Thread nD τ).loc main_arg4))

/-- The square index of row `r`, column `k`, each taken modulo 1024. -/
def sq (r k : ℕ) : S1024x1024.Idx := ix2 (Fin.ofNat 1024 r) (Fin.ofNat 1024 k)

/-- Device `c`'s own block as it lies in a slot: keys in the first 1024 columns, values in the rest. -/
def kvOwn (c : Dev nD) (r k : ℕ) : Elt F .bf16 :=
  if k < 1024 then k0_pay2 (inK m c) (sq r k) else k0_pay3 (inV m c) (sq r (k - 1024))

/-- What device `c`'s buffer of slots holds once all have come: slot `j` is the block of the device `j` steps before. -/
def kvF (c : Dev nD) : Buf (Elt F) ((c : Thread nD τ).loc cc0_scratch0) :=
  fun i : S4096x2048.Idx => kvOwn m (back c ((i 0).val / 1024)) ((i 0).val % 1024) (i 1).val

/-- The elements of the slot whose first row is `o`. -/
def slotSet (o : ℕ) : Finset S4096x2048.Idx := Finset.univ.filter fun i => o ≤ (i 0).val ∧ (i 0).val < o + 1024

theorem mem_slotSet {o : ℕ} {i : S4096x2048.Idx} : i ∈ slotSet o ↔ o ≤ (i 0).val ∧ (i 0).val < o + 1024 := by
  unfold slotSet; rw [Finset.mem_filter]; exact ⟨fun h => h.2, fun h => ⟨Finset.mem_univ _, h⟩⟩

/-- Share `q` of the slot at row `o` of device `c`, holding `f`. -/
def slotPts (c : Dev nD) (o : ℕ) (q : PosShare TreeShare) (f : Buf (Elt F) ((c : Thread nD τ).loc cc0_scratch0)) : sProp 𝕄 :=
  (c : Thread nD τ).loc cc0_scratch0 ↦[slotSet o]{q} f

instance slotPts_storable (c : Dev nD) (o : ℕ) (q) (f) : BI.Storable (upEmb : UEmb _ 𝕄) (slotPts (F := F) c o q f) := by
  unfold slotPts; infer_instance

/-- A slot as the program's memory reference. -/
abbrev kvM : Memref sig .tc .vmem S4096x2048 .bf16 := Memref.whole cc0_scratch0
abbrev slotM (o : ℕ) (h : ∀ a, (![o, 0] : Fin 2 → Nat) a + S1024x2048.size a ≤ S4096x2048.size a) : Memref sig .tc .vmem S1024x2048 .bf16 :=
  kvM.slice (Rect.unit (s := S4096x2048) ![o, 0] S1024x2048.size h) (fun _ => rfl)

/-- What one copied slot counts for on a semaphore. -/
abbrev N : ℕ := (slotM 0 inb_S4096x2048_S1024x2048_0_0).view.dmaCredit
theorem N_pos : 0 < N := View.dmaCredit_pos _ (by decide)
theorem N_slot (o : ℕ) (h) : (slotM o h).view.dmaCredit = N := rfl

/-! ## The schedule -/

/-- What the next device's barrier unit hands over: its slots 1, 2 and 3, whatever they hold. -/
def barPay (c : Dev nD) : sProp 𝕄 :=
  iprop((∃ f, slotPts (nxt c) 1024 fullShare f) ∗ (∃ f, slotPts (nxt c) 2048 fullShare f) ∗ (∃ f, slotPts (nxt c) 3072 fullShare f))

/-- The duties of a semaphore by its kind: both for the barrier, one for a send or receive. -/
def dutiesOf : Fin 8 → Finset Bool := fun
  | 0 => Finset.univ | 7 => ∅ | _ => {false}
/-- What a duty of a semaphore hands its owner, by its kind. -/
def payOf (c : Dev nD) : Fin 8 → Bool → sProp 𝕄 := fun
  | 0, true => barPay c
  | 1, _ => slotPts c 0 fullShare.left (kvF m c)
  | 2, _ => slotPts c 1024 fullShare.left (kvF m c)
  | 3, _ => slotPts c 2048 fullShare.left (kvF m c)
  | 4, _ => slotPts c 1024 fullShare (kvF m c)
  | 5, _ => slotPts c 2048 fullShare (kvF m c)
  | 6, _ => slotPts c 3072 fullShare (kvF m c)
  | _, _ => iprop(emp)

instance payOf_storable (c : Dev nD) (k : Fin 8) (d : Bool) : BI.Storable (upEmb : UEmb _ 𝕄) (payOf m c k d) := by
  unfold payOf barPay; split <;> infer_instance

/-- One round per cell. -/
def rd : Rounds.Schedule (GSem nD τ sig) Bool 𝕄 where
  duties g r := if r = 0 ∧ g.1.2 = .tc then dutiesOf (kind g.2) else ∅
  unitless _ := False
  amount g _ _ := if kind g.2 = 0 then 1 else N
  payload g _ d := payOf m g.1.1 (kind g.2) d
  amount_pos g _ _ _ := by
    by_cases h : kind g.2 = 0
    · rw [if_pos h]; exact Nat.one_pos
    · rw [if_neg h]; exact N_pos

instance rd_storable (g : GSem nD τ sig) (r : ℕ) (d : Bool) :
    BI.Storable (upEmb : UEmb _ 𝕄) ((rd (F := F) m).payload g r d) := by
  show BI.Storable upEmb (payOf m g.1.1 (kind g.2) d)
  infer_instance

theorem duties_at (c : Dev nD) (k : Fin 7) : (rd (F := F) m).duties (kcell (c, k)) 0 = dutiesOf k.castSucc := by
  dsimp only [rd]; rw [if_pos ⟨rfl, rfl⟩, kind_csem]
theorem duties_later (g : GSem nD τ sig) : ∀ r, 1 ≤ r → (rd (F := F) m).duties g r = ∅ :=
  fun r hr => by dsimp only [rd]; rw [if_neg fun h => by omega]
theorem amount_at (c : Dev nD) (k : Fin 7) (d : Bool) : (rd (F := F) m).amount (kcell (c, k)) 0 d = if k.castSucc = 0 then 1 else N := by
  dsimp only [rd]; rw [kind_csem]
theorem payload_at (c : Dev nD) (k : Fin 7) (d : Bool) : (rd (F := F) m).payload (kcell (c, k)) 0 d = payOf m c k.castSucc d := by
  dsimp only [rd]; rw [kind_csem]

theorem false_mem (c : Dev nD) (k : Fin 7) : false ∈ (rd (F := F) m).duties (kcell (c, k)) 0 := by
  rw [duties_at]; revert k; decide
theorem true_mem (c : Dev nD) : true ∈ (rd (F := F) m).duties (kcell (c, 0)) 0 := by
  rw [duties_at]; decide

theorem expect_bar (c : Dev nD) : (rd (F := F) m).expect (kcell (c, 0)) 0 = 2 := by
  unfold Schedule.expect Schedule.amountOf
  rw [duties_at, Finset.sum_congr rfl fun d _ => amount_at m c 0 d, Finset.sum_const]; rfl
theorem expect_dma (c : Dev nD) (k : Fin 7) (hk : k ≠ 0) : (rd (F := F) m).expect (kcell (c, k)) 0 = N := by
  unfold Schedule.expect Schedule.amountOf
  have h1 : dutiesOf k.castSucc = {false} := by revert k; decide
  have h2 : k.castSucc ≠ 0 := by revert k; decide
  rw [duties_at, h1, Finset.sum_singleton, amount_at, if_neg h2]

/-- The barrier's round hands over the next device's slots; -/
theorem rest_bar (c : Dev nD) :
    bigSep ((rd (F := F) m).duties (kcell (c, 0)) 0 \ ∅) (fun d => (rd (F := F) m).payload (kcell (c, 0)) 0 d) = iprop(emp ∗ barPay c) := by
  have h1 : dutiesOf (0 : Fin 7).castSucc = Finset.univ := by decide
  rw [Finset.sdiff_empty, duties_at, h1, bigSep_univ_eq_bigSepL [false, true] (by decide) (by decide), bigSepL_cons_cons, bigSepL_singleton,
    payload_at, payload_at]
  rfl
/-- any other cell's round its one payload. -/
theorem rest_dma (c : Dev nD) (k : Fin 7) (hk : k ≠ 0) :
    bigSep ((rd (F := F) m).duties (kcell (c, k)) 0 \ ∅) (fun d => (rd (F := F) m).payload (kcell (c, k)) 0 d) = payOf m c k.castSucc false := by
  have h1 : dutiesOf k.castSucc = {false} := by revert k; decide
  rw [Finset.sdiff_empty, duties_at, h1, bigSep_singleton, payload_at]

/-! ## What is owed, and in what order a device may wait -/

/-- Owed once two copies are started, one, none; then with the second signal still to give, and both. -/
def O3 (c : Dev nD) : CellTallies nD τ sig Unit := tallyAt (kcell (nxt c, 6)) () N
def O2 (c : Dev nD) : CellTallies nD τ sig Unit := O3 c + tallyAt (kcell (nxt c, 5)) () N
def O1 (c : Dev nD) : CellTallies nD τ sig Unit := O2 c + tallyAt (kcell (nxt c, 4)) () N
def Ob (c : Dev nD) : CellTallies nD τ sig Unit := O1 c + tallyAt (kcell (nxt c, 0)) () 1
def O₀ (c : Dev nD) : CellTallies nD τ sig Unit := Ob c + tallyAt (kcell (prv c, 0)) () 1

def L (g : GSem nD τ sig) : Finset Unit := if g.1.2 = .tc then {()} else ∅
/-- The order of waits: sends (and the staging copies) below the barrier, below the receives in turn. -/
def lvOf : Fin 8 → ℕ := fun | 0 => 1 | 4 => 2 | 5 => 3 | 6 => 4 | _ => 0
def lv (g : GSem nD τ sig) (_ : Unit) : ℕ := lvOf (kind g.2)

theorem L_of_ne (g : GSem nD τ sig) (h : g.1.2 ≠ .tc) : L g = ∅ := if_neg h
theorem L_tc (c : Dev nD) (sm : SemLoc sig) : L ((c : Thread nD τ), sm) = {()} := if_pos rfl

/-- The tally at one cell, split off a sum: something owed by the sum is owed by a summand. -/
theorem owed_add {A : CellTallies nD τ sig Unit} {g h : GSem nD τ sig} {n : ℕ} {u : Unit} (hp : 0 < (A + tallyAt h () n) g u) :
    0 < A g u ∨ g = h := by
  rw [Pi.add_apply, Finsupp.add_apply, tallyAt_apply] at hp
  by_cases hg : g = h
  · exact Or.inr hg
  · rw [if_neg (fun h' => hg h'.1)] at hp; exact Or.inl hp
theorem owed_at {g h : GSem nD τ sig} {n : ℕ} {u : Unit} (hp : 0 < (tallyAt h () n : CellTallies nD τ sig Unit) g u) : g = h := by
  rw [tallyAt_apply] at hp
  by_contra hg
  rw [if_neg (fun h' => hg h'.1)] at hp; exact absurd hp (Nat.lt_irrefl 0)

/-- All owed cells are cells of the tensor cores and lie above level `n`. -/
def Above (n : ℕ) (A : CellTallies nD τ sig Unit) : Prop := ∀ g u, 0 < A g u → ∃ d : Dev nD, ∃ k : Fin 7, g = kcell (d, k) ∧ n < lvOf k.castSucc

theorem above_at {n : ℕ} (d : Dev nD) (k : Fin 7) (N : ℕ) (h : n < lvOf k.castSucc) : Above n (tallyAt (kcell (d, k)) () N) :=
  fun g u hg => ⟨d, k, owed_at hg, h⟩
theorem above_add {n : ℕ} {A : CellTallies nD τ sig Unit} (hA : Above n A) (d : Dev nD) (k : Fin 7) (N : ℕ) (h : n < lvOf k.castSucc) :
    Above n (A + tallyAt (kcell (d, k)) () N) :=
  fun g u hg => (owed_add hg).elim (hA g u) fun e => ⟨d, k, e, h⟩
theorem above_zero (n : ℕ) : Above n 0 := fun g u h => absurd h (Nat.lt_irrefl 0)

theorem above_O3 (c : Dev nD) : Above 3 (O3 c) := above_at _ 6 _ (by decide)
theorem above_O2 (c : Dev nD) : Above 2 (O2 c) := above_add (above_at _ 6 _ (by decide)) _ 5 _ (by decide)
theorem above_O1 (c : Dev nD) : Above 1 (O1 c) := above_add (above_add (above_at _ 6 _ (by decide)) _ 5 _ (by decide)) _ 4 _ (by decide)
theorem above_O₀ (c : Dev nD) : Above 0 (O₀ c) :=
  above_add (above_add (above_add (above_add (above_at _ 6 _ (by decide)) _ 5 _ (by decide)) _ 4 _ (by decide)) _ 0 _ (by decide)) _ 0 _ (by decide)

theorem Above.mono {n n' : ℕ} (h : n' ≤ n) {A : CellTallies nD τ sig Unit} (hA : Above n A) : Above n' A :=
  fun g u hg => let ⟨d, k, e, hk⟩ := hA g u hg; ⟨d, k, e, lt_of_le_of_lt h hk⟩

/-- A device may wait on any semaphore of level at most `n` while it owes only above `n`. -/
theorem mayWait (c : Dev nD) (sm : SemLoc sig) (n : ℕ) (hn : lvOf (kind sm) ≤ n) (O : CellTallies nD τ sig Unit) (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by obtain ⟨d, k, rfl, -⟩ := hO g u hg; exact Finset.mem_singleton_self _)
    (fun p hp => by rw [Finset.mem_singleton.mp hp]; exact hn)
    (fun g u hg => by obtain ⟨d, k, rfl, hk⟩ := hO g u hg; dsimp only [lv]; rw [kind_csem]; exact hk)

/-! ## What a device's program starts from -/

/-- Every cell's invariant, and that its first round is reached. -/
def records (K : Dev nD × Fin 7 → ℕ) : sProp 𝕄 :=
  iprop((bigSep Finset.univ fun ck : Dev nD × Fin 7 => cellInv ER (rd m) (K ck) (kcell ck))
    ∗ bigSep Finset.univ fun ck : Dev nD × Fin 7 => reached ER (kcell ck) 0)

instance records_persistent (K : Dev nD × Fin 7 → ℕ) : BI.Persistent (records m K) := by unfold records; infer_instance

theorem inv_of (K : Dev nD × Fin 7 → ℕ) (ck : Dev nD × Fin 7) : records m K ⊢ cellInv ER (rd m) (K ck) (kcell ck) :=
  sep_elim_left.trans (bigSep_elim (Finset.mem_univ ck))
theorem reached_of (K : Dev nD × Fin 7 → ℕ) (ck : Dev nD × Fin 7) : records m K ⊢ reached ER (kcell ck) 0 :=
  sep_elim_right.trans (bigSep_elim (Finset.mem_univ ck))

/-- The tokens of the duties device `c` performs. -/
def payToks (c : Dev nD) : sProp 𝕄 :=
  iprop(dutyTok ER (kcell (nxt c, 0)) 0 false ∗ dutyTok ER (kcell (prv c, 0)) 0 true
    ∗ dutyTok ER (kcell (c, 1)) 0 false ∗ dutyTok ER (kcell (c, 2)) 0 false ∗ dutyTok ER (kcell (c, 3)) 0 false
    ∗ dutyTok ER (kcell (nxt c, 4)) 0 false ∗ dutyTok ER (kcell (nxt c, 5)) 0 false ∗ dutyTok ER (kcell (nxt c, 6)) 0 false)

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- Device `c`'s part of the ring's ghost state under the names `K`: the records, its places at its own cells, its tokens. -/
def ghost (K : Dev nD × Fin 7 → ℕ) (c : Dev nD) : sProp 𝕄 :=
  iprop(records m K ∗ (bigSep Finset.univ fun k : Fin 7 => atPos ER (kcell (c, k)) 0 ∅ 0) ∗ payToks c)

/-- The credit a device is given: two barrier units and its three receives. -/
def credits (c : Dev nD) : sProp 𝕄 :=
  iprop(cred (tallyAt (kcell (c, 0)) () 2) ∗ cred (tallyAt (kcell (c, 4)) () N) ∗ cred (tallyAt (kcell (c, 5)) () N) ∗ cred (tallyAt (kcell (c, 6)) () N))

def start (c : Dev nD) : sProp 𝕄 := iprop((∃ K, ghost m K c) ∗ credits c ∗ levAts L lv)

end Cert.KernelIdeal.Ring

end
-- ==== Proof.Panels.lean ====
/-
What the buffers hold: reading and writing panels of 128 columns (one head each), the two halves of a
slot, and a slot copied to the next device. All are facts about contents alone; no program runs here.
-/
module

public import proofs.«01_k».proof.Proof.Proto

@[expose] public section

noncomputable section

namespace Cert.KernelIdeal.Ring

open Cert.KernelIdeal Cert.KernelIdeal.Gen
open Idealize.ShloMosaic Idealize.ShloMosaic.TcCoe
open Idealize.SL.Sem

variable {F : FTy → Type} [FloatOps F] [Named F]
variable (m : (ℓ : Loc nD τ sig) → Buf (Elt F) ℓ)

/-! ## Panels -/

/-- Head `h`'s 128 columns of a square array. -/
def panel {α : Type} (h : ℕ) (f : S1024x1024.Idx → α) : S1024x128.Idx → α := fun p => f (sq (p 0).val (128 * h + (p 1).val))
/-- The 1024 rows from `a` and 128 columns from `b` of the buffer of slots. -/
def kvPanel {α : Type} (a b : ℕ) (f : S4096x2048.Idx → α) : S1024x128.Idx → α :=
  fun p => f (ix2 (Fin.ofNat 4096 (a + (p 0).val)) (Fin.ofNat 2048 (b + (p 1).val)))
/-- The square array whose panels are `g 0, …, g 7`. -/
def assemble {α : Type} (g : ℕ → S1024x128.Idx → α) : S1024x1024.Idx → α :=
  fun i => g ((i 1).val / 128) (ix2 (i 0) (Fin.ofNat 128 (i 1).val))
/-- The first `k` panels from `new`, the rest from `old`. -/
def mix {α : Type} (k : ℕ) (new old : S1024x1024.Idx → α) : S1024x1024.Idx → α := fun i => if (i 1).val < 128 * k then new i else old i

theorem idx2_ext {n0 n1 : ℕ} {i j : (⟨2, ![n0, n1]⟩ : Shape).Idx} (h0 : (i 0).val = (j 0).val) (h1 : (i 1).val = (j 1).val) : i = j := by
  rw [eq_ix2 i, eq_ix2 j]; congr 1 <;> exact Fin.ext (by assumption)

theorem lt0 (i : S1024x1024.Idx) : (i 0).val < 1024 := (i 0).isLt
theorem lt1 (i : S1024x1024.Idx) : (i 1).val < 1024 := (i 1).isLt
theorem plt0 (p : S1024x128.Idx) : (p 0).val < 1024 := (p 0).isLt
theorem plt1 (p : S1024x128.Idx) : (p 1).val < 128 := (p 1).isLt
theorem sq0 (r k : ℕ) : ((sq r k) 0).val = r % 1024 := rfl
theorem sq1 (r k : ℕ) : ((sq r k) 1).val = k % 1024 := rfl

theorem panel_assemble {α : Type} (g : ℕ → S1024x128.Idx → α) (h : ℕ) (hh : h < 8) : panel h (assemble g) = g h := by
  funext p
  have hp := plt1 p; have hp0 := plt0 p
  have e1 : ((sq (p 0).val (128 * h + (p 1).val)) 1).val = 128 * h + (p 1).val := by rw [sq1]; omega
  show g (((sq (p 0).val (128 * h + (p 1).val)) 1).val / 128) _ = g h p
  rw [e1, show (128 * h + (p 1).val) / 128 = h by omega]
  congr 1
  refine idx2_ext ?_ ?_
  · show (p 0).val % 1024 = _; omega
  · show (128 * h + (p 1).val) % 128 = _; omega

theorem panel_mix {α : Type} (k : ℕ) (hk : k < 8) (new old : S1024x1024.Idx → α) : panel k (mix k new old) = panel k old := by
  funext p
  have hp := plt1 p
  show (if (128 * k + (p 1).val) % 1024 < 128 * k then _ else _) = _
  rw [if_neg (by omega)]; rfl

theorem mix_zero {α : Type} (new old : S1024x1024.Idx → α) : mix 0 new old = old := by
  funext i; unfold mix; rw [if_neg (by omega)]
theorem mix_eight {α : Type} (new old : S1024x1024.Idx → α) : mix 8 new old = new := by
  funext i; unfold mix; have := lt1 i; rw [if_pos (by omega)]

/-! ## Reading and writing through the program's views -/

abbrev qM : Memref sig .tc .vmem S1024x1024 .bf16 := Memref.whole cc0_scratch1
abbrev biasM : Memref sig .tc .vmem S1024x1024 .f32 := Memref.whole cc0_scratch2
abbrev accM : Memref sig .tc .vmem S1024x1024 .f32 := Memref.whole cc0_scratch3
abbrev lM : Memref sig .tc .vmem S1024x1024 .f32 := Memref.whole cc0_scratch4

theorem read_kv (f : Buf (Elt F) ((0 : Dev nD).tc.loc cc0_scratch0 : Loc nD τ sig)) {a b : ℕ} {off : Fin 2 → ℕ} {inb} (h : off = ![a, b])
    (ha : a + 1024 ≤ 4096) (hb : b + 128 ≤ 2048) :
    kvM.view.readAt (Elt F) (Rect.unit (s := S4096x2048) off S1024x128.size inb).toLoadRect f = kvPanel a b f := by
  subst h
  funext p
  have hp := plt1 p; have hp0 := plt0 p
  show f ((Rect.unit (s := S4096x2048) ![a, b] S1024x128.size inb).emb p) = f _
  congr 1
  refine idx2_ext ?_ ?_
  · show a + 1 * (p 0).val = (a + (p 0).val) % 4096; omega
  · show b + 1 * (p 1).val = (b + (p 1).val) % 2048; omega

theorem read_q (f : S1024x1024.Idx → Elt F .bf16) {k : ℕ} {off : Fin 2 → ℕ} {inb} (h : off = ![0, 128 * k]) (hk : k < 8) :
    qM.view.readAt (Elt F) (Rect.unit (s := S1024x1024) off S1024x128.size inb).toLoadRect f = panel k f := by
  subst h
  funext p
  have hp := plt1 p; have hp0 := plt0 p
  show f ((Rect.unit (s := S1024x1024) ![0, 128 * k] S1024x128.size inb).emb p) = f _
  congr 1
  refine idx2_ext ?_ ?_
  · show 0 + 1 * (p 0).val = (p 0).val % 1024; omega
  · show 128 * k + 1 * (p 1).val = (128 * k + (p 1).val) % 1024; omega

theorem read_acc (f : S1024x1024.Idx → Elt F .f32) {k : ℕ} {off : Fin 2 → ℕ} {inb} (h : off = ![0, 128 * k]) (hk : k < 8) :
    accM.view.readAt (Elt F) (Rect.unit (s := S1024x1024) off S1024x128.size inb).toLoadRect f = panel k f := by
  subst h
  funext p
  have hp := plt1 p; have hp0 := plt0 p
  show f ((Rect.unit (s := S1024x1024) ![0, 128 * k] S1024x128.size inb).emb p) = f _
  congr 1
  refine idx2_ext ?_ ?_
  · show 0 + 1 * (p 0).val = (p 0).val % 1024; omega
  · show 128 * k + 1 * (p 1).val = (128 * k + (p 1).val) % 1024; omega

theorem read_l (f : S1024x1024.Idx → Elt F .f32) {k : ℕ} {off : Fin 2 → ℕ} {inb} (h : off = ![0, 128 * k]) (hk : k < 8) :
    lM.view.readAt (Elt F) (Rect.unit (s := S1024x1024) off S1024x128.size inb).toLoadRect f = panel k f := read_acc f h hk

/-- A panel written over a buffer whose earlier panels are new extends the new part by that panel. -/
theorem mix_step {α : Type} (W : S1024x1024.Idx → α) (k : ℕ) (hk : k < 8) (new old : S1024x1024.Idx → α) (w : S1024x128.Idx → α)
    (hin : ∀ p, W (sq (p 0).val (128 * k + (p 1).val)) = w p)
    (hout : ∀ i : S1024x1024.Idx, ((i 1).val < 128 * k ∨ 128 * k + 128 ≤ (i 1).val) → W i = mix k new old i) (hw : panel k new = w) :
    W = mix (k + 1) new old := by
  funext i
  have h0 := lt0 i; have h1 := lt1 i
  by_cases h : (i 1).val < 128 * k ∨ 128 * k + 128 ≤ (i 1).val
  · rw [hout i h]
    unfold mix
    rcases h with h | h
    · rw [if_pos h, if_pos (by omega)]
    · rw [if_neg (by omega), if_neg (by omega)]
  · have e : i = sq (i 0).val (128 * k + ((i 1).val - 128 * k)) :=
      idx2_ext (by rw [sq0]; omega) (by rw [sq1]; omega)
    have hp := hin (ix2 (i 0) ⟨(i 1).val - 128 * k, by omega⟩)
    rw [← hw] at hp
    have e' : W i = new i := by
      rw [e]; exact hp
    rw [e']; unfold mix; rw [if_pos (by omega)]

/-- An index outside columns `128 k … 128 k + 127` is none of the panel's. -/
theorem not_panel {k : ℕ} {inb} {i : S1024x1024.Idx} (h : (i 1).val < 128 * k ∨ 128 * k + 128 ≤ (i 1).val) :
    i ∉ (Rect.unit (s := S1024x1024) ![0, 128 * k] S1024x128.size inb).set := fun hm => by
  have := Rect.mem_set_unit.mp hm 1
  have h1 : 128 * k ≤ (i 1).val := this.1
  have h2 : (i 1).val < 128 * k + 128 := this.2
  omega
theorem panel_emb {k : ℕ} (hk : k < 8) {inb} (p : S1024x128.Idx) :
    sq (p 0).val (128 * k + (p 1).val) = (Rect.unit (s := S1024x1024) ![0, 128 * k] S1024x128.size inb).emb p := by
  have hp := plt1 p; have hp0 := plt0 p
  refine idx2_ext ?_ ?_
  · show (p 0).val % 1024 = 0 + 1 * (p 0).val; omega
  · show (128 * k + (p 1).val) % 1024 = 128 * k + 1 * (p 1).val; omega

theorem write_q (new old : S1024x1024.Idx → Elt F .bf16) (w : S1024x128.Idx → Elt F .bf16) {k : ℕ} {off : Fin 2 → ℕ} {inb} (h : off = ![0, 128 * k])
    (hk : k < 8) (hw : panel k new = w) :
    (qM.access (Rect.unit (s := S1024x1024) off S1024x128.size inb)).write (Elt F) (mix k new old) w Finset.univ = mix (k + 1) new old := by
  subst h
  refine mix_step _ k hk new old w (fun p => ?_) (fun i hi => ?_) hw
  · rw [panel_emb hk (inb := inb)]; exact View.write_emb_of_mem (v := qM.access _) _ _ (Finset.mem_univ p)
  · refine View.write_of_not_mem (v := qM.access _) _ _ _ (fun hm => not_panel (inb := inb) hi ?_)
    exact (View.set_slice_whole cc0_scratch1 _) ▸ hm
theorem write_acc (new old : S1024x1024.Idx → Elt F .f32) (w : S1024x128.Idx → Elt F .f32) {k : ℕ} {off : Fin 2 → ℕ} {inb} (h : off = ![0, 128 * k])
    (hk : k < 8) (hw : panel k new = w) :
    (accM.access (Rect.unit (s := S1024x1024) off S1024x128.size inb)).write (Elt F) (mix k new old) w Finset.univ = mix (k + 1) new old := by
  subst h
  refine mix_step _ k hk new old w (fun p => ?_) (fun i hi => ?_) hw
  · rw [panel_emb hk (inb := inb)]; exact View.write_emb_of_mem (v := accM.access _) _ _ (Finset.mem_univ p)
  · refine View.write_of_not_mem (v := accM.access _) _ _ _ (fun hm => not_panel (inb := inb) hi ?_)
    exact (View.set_slice_whole cc0_scratch3 _) ▸ hm
theorem write_l (new old : S1024x1024.Idx → Elt F .f32) (w : S1024x128.Idx → Elt F .f32) {k : ℕ} {off : Fin 2 → ℕ} {inb} (h : off = ![0, 128 * k])
    (hk : k < 8) (hw : panel k new = w) :
    (lM.access (Rect.unit (s := S1024x1024) off S1024x128.size inb)).write (Elt F) (mix k new old) w Finset.univ = mix (k + 1) new old := by
  subst h
  refine mix_step _ k hk new old w (fun p => ?_) (fun i hi => ?_) hw
  · rw [panel_emb hk (inb := inb)]; exact View.write_emb_of_mem (v := lM.access _) _ _ (Finset.mem_univ p)
  · refine View.write_of_not_mem (v := lM.access _) _ _ _ (fun hm => not_panel (inb := inb) hi ?_)
    exact (View.set_slice_whole cc0_scratch4 _) ▸ hm

/-! ## Slots -/

theorem slot_set (o : ℕ) (h) : (slotM o h).view.set = slotSet o := by
  show ((View.whole cc0_scratch0).slice (Rect.unit (s := S4096x2048) ![o, 0] S1024x2048.size h)).set = _
  rw [View.set_slice_whole]
  ext i
  rw [Rect.mem_set_unit, mem_slotSet]
  have hi : (i 1).val < 2048 := (i 1).isLt
  constructor
  · intro hh; exact hh 0
  · intro hh a
    match a with
    | ⟨0, _⟩ => exact hh
    | ⟨1, _⟩ => exact ⟨Nat.zero_le _, by show (i 1).val < 0 + 2048; omega⟩

/-- A piece of the buffer of slots that a load or store touches, rows `a … a + 1023`, lies in the slot at row `a`. -/
theorem panel_sub {a b n : ℕ} {off : Fin 2 → ℕ} {sz : Shape} {inb} (h : off = ![a, b]) (hs : sz = ⟨2, ![1024, n]⟩) :
    (Rect.unit (s := S4096x2048) off (fun x => (![1024, n] : Fin 2 → ℕ) x) inb).set ⊆ slotSet a := by
  subst h
  intro i hi
  exact mem_slotSet.mpr (Rect.mem_set_unit.mp hi 0)

/-- A copied slot holds, at the next device, that device's share of the ring. -/
theorem landed (c : Dev nD) (j : ℕ) (h : ∀ a, (![1024 * j, 0] : Fin 2 → Nat) a + S1024x2048.size a ≤ S4096x2048.size a)
    (h' : ∀ a, (![1024 * (j + 1), 0] : Fin 2 → Nat) a + S1024x2048.size a ≤ S4096x2048.size a)
    (fd : Buf (Elt F) ((nxt c : Thread nD τ).loc cc0_scratch0)) :
    ∀ i ∈ slotSet (1024 * (j + 1)),
      (slotM (1024 * (j + 1)) h').view.write (Elt F) fd ((slotM (1024 * j) h).view.read (Elt F) (kvF m c)) Finset.univ i = kvF m (nxt c) i := by
  intro i hi
  rw [← slot_set _ h'] at hi
  obtain ⟨p, -, rfl⟩ := Finset.mem_map.mp hi
  rw [View.write_emb_of_mem _ _ (Finset.mem_univ p), View.read_apply]
  have hp0 : (p 0).val < 1024 := (p 0).isLt
  have e0 : (((slotM (1024 * j) h).view.emb p) 0).val = 1024 * j + 1 * (p 0).val := rfl
  have e1 : (((slotM (1024 * j) h).view.emb p) 1).val = 0 + 1 * (p 1).val := rfl
  have f0 : (((slotM (1024 * (j + 1)) h').view.emb p) 0).val = 1024 * (j + 1) + 1 * (p 0).val := rfl
  have f1 : (((slotM (1024 * (j + 1)) h').view.emb p) 1).val = 0 + 1 * (p 1).val := rfl
  show kvF m c ((slotM (1024 * j) h).view.emb p) = kvF m (nxt c) ((slotM (1024 * (j + 1)) h').view.emb p)
  unfold kvF
  rw [e0, e1, f0, f1, show (1024 * (j + 1) + 1 * (p 0).val) / 1024 = j + 1 by omega, show (1024 * j + 1 * (p 0).val) / 1024 = j by omega,
    show (1024 * (j + 1) + 1 * (p 0).val) % 1024 = (p 0).val by omega, show (1024 * j + 1 * (p 0).val) % 1024 = (p 0).val by omega, back_nxt]

/-- The keys and the values stored, slot 0 holds the device's own block. -/
theorem stored (c : Dev nD) (f : Buf (Elt F) ((c : Thread nD τ).loc cc0_scratch0)) {inb inb'} :
    ∀ i ∈ slotSet 0, (kvM.access (Rect.unit (s := S4096x2048) ![0, 1024] S1024x1024.size inb')).write (Elt F)
      ((kvM.access (Rect.unit (s := S4096x2048) ![0, 0] S1024x1024.size inb)).write (Elt F) f (k0_pay2 (inK m c)) Finset.univ)
      (k0_pay3 (inV m c)) Finset.univ i = kvF m c i := by
  intro i hi
  have hr := mem_slotSet.mp hi
  have hi1 : (i 1).val < 2048 := (i 1).isLt
  have hk : kvF m c i = kvOwn m c (i 0).val (i 1).val := by
    unfold kvF; rw [show (i 0).val / 1024 = 0 by omega, show (i 0).val % 1024 = (i 0).val by omega, back_zero]
  rw [hk]; unfold kvOwn
  by_cases hc : (i 1).val < 1024
  · rw [if_pos hc]
    refine (View.write_of_not_mem (v := kvM.access _) _ _ _ (fun hm => ?_)).trans ?_
    · have hm' : i ∈ (Rect.unit (s := S4096x2048) ![0, 1024] S1024x1024.size inb').set := (View.set_slice_whole cc0_scratch0 _) ▸ hm
      have := (Rect.mem_set_unit.mp hm' 1).1
      have h2 : 1024 ≤ (i 1).val := this
      omega
    · have e : i = (Rect.unit (s := S4096x2048) ![0, 0] S1024x1024.size inb).emb (sq (i 0).val (i 1).val) := by
        refine idx2_ext ?_ ?_
        · show (i 0).val = 0 + 1 * ((i 0).val % 1024); omega
        · show (i 1).val = 0 + 1 * ((i 1).val % 1024); omega
      have hw := View.write_emb_of_mem (v := kvM.access (Rect.unit (s := S4096x2048) ![0, 0] S1024x1024.size inb)) f (k0_pay2 (inK m c))
        (Finset.mem_univ (sq (i 0).val (i 1).val))
      exact (congrArg _ e).trans hw
  · rw [if_neg hc]
    have e : i = (Rect.unit (s := S4096x2048) ![0, 1024] S1024x1024.size inb').emb (sq (i 0).val ((i 1).val - 1024)) := by
      refine idx2_ext ?_ ?_
      · show (i 0).val = 0 + 1 * ((i 0).val % 1024); omega
      · show (i 1).val = 1024 + 1 * (((i 1).val - 1024) % 1024); omega
    have hw := View.write_emb_of_mem (v := kvM.access (Rect.unit (s := S4096x2048) ![0, 1024] S1024x1024.size inb'))
      ((kvM.access (Rect.unit (s := S4096x2048) ![0, 0] S1024x1024.size inb)).write (Elt F) f (k0_pay2 (inK m c)) Finset.univ) (k0_pay3 (inV m c))
      (Finset.mem_univ (sq (i 0).val ((i 1).val - 1024)))
    exact (congrArg _ e).trans hw

end Cert.KernelIdeal.Ring

end
-- ==== Proof.Steps.lean ====
/-
The steps a device's program is made of, each as one rule: a wait on one of the ring's semaphores, the
passing of a slot to the next device, one head of one chunk of the attention, and the loops over heads.
Also the contents the scratch buffers go through, in the program's own terms.
-/
module

public import proofs.«01_k».proof.Proof.Panels

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

/-! ## Contents in the program's terms -/

/-- The device's number as the program has it, and the number of the device whose block it works on `s` steps in. -/
abbrev word (c : Dev nD) : BitVec 32 := Scalar.remsi (Scalar.divsi (Dev.word c) 1#32) 4#32
abbrev origin (c : Dev nD) (s : BitVec 32) : BitVec 32 := Scalar.remsi (Scalar.addi (Scalar.subi (word c) s) 4#32) 4#32
/-- The sign of 64, in the two ways the program spells it. -/
abbrev pos64 : BitVec 32 := Scalar.extui (Scalar.cmpi .sgt 64#32 0#32)
abbrev sign64 : BitVec 32 := Scalar.subi pos64 (Scalar.extui (Scalar.cmpi .slt 64#32 0#32))

/-- The queries of device `c`, scaled. -/
def Qc (c : Dev nD) : S1024x1024.Idx → Elt F .bf16 := k0_pay4 (inX m c) (inWq m c)

/-- The mask of each chunk, as it is added to the scores. -/
def bias0 (c : Dev nD) : S1024x1024.Idx → Elt F .f32 :=
  k0_pay11 (F := F) (k0_pay7 (word c) (iota .tc S1024x1 32 [0] iota_S1024x1_d0_w32) 64#32 k0_pay5 k0_pay6 sign64) (k0_pay8 (origin c 0#32))
    (k0_pay9 (word c) (iota .tc S1024x1 32 [0] iota_S1024x1_d0_w32) 64#32 k0_pay5 k0_pay6 sign64) (k0_pay10 (origin c 0#32))
def bias1 (c : Dev nD) : S1024x1024.Idx → Elt F .f32 :=
  k0_pay20 (F := F) (k0_pay18 (origin c 1#32) (k0_pay15 (word c))) (k0_pay19 (origin c 1#32) (k0_pay15 (word c)))
def bias2 (c : Dev nD) : S1024x1024.Idx → Elt F .f32 :=
  k0_pay27 (F := F) (origin c 2#32) (k0_pay24 (word c)) (iota .tc S1x1024 32 [1] iota_S1x1024_d1_w32) 64#32 k0_pay25 k0_pay26 pos64
def bias3 (c : Dev nD) : S1024x1024.Idx → Elt F .f32 :=
  k0_pay38 (F := F) (k0_pay35 (origin c 3#32)) (k0_pay36 (word c) (origin c 3#32) k0_pay31 k0_pay32 k0_pay33 0#32)
    (k0_pay37 (word c) (origin c 3#32) k0_pay31 k0_pay32 k0_pay33 0#32) 0#32

/-- The weighted values and the weights of the first chunk, -/
def acc0 (c : Dev nD) : S1024x1024.Idx → Elt F .f32 :=
  assemble fun h => k0_pay13 (panel h (Qc m c)) (kvPanel 0 (128 * h) (kvF m c)) (bias0 c) (kvPanel 0 (128 * h + 1024) (kvF m c))
def den0 (c : Dev nD) : S1024x1024.Idx → Elt F .f32 :=
  assemble fun h => k0_pay14 (panel h (Qc m c)) (kvPanel 0 (128 * h) (kvF m c)) (bias0 c)
/-- and with a later chunk, its rows in the buffer of slots from `o`, added to what was there. -/
def accAdd (c : Dev nD) (o : ℕ) (b a : S1024x1024.Idx → Elt F .f32) : S1024x1024.Idx → Elt F .f32 :=
  assemble fun h => k0_pay22 (panel h (Qc m c)) (kvPanel o (128 * h) (kvF m c)) b (kvPanel o (128 * h + 1024) (kvF m c)) (panel h a)
def denAdd (c : Dev nD) (o : ℕ) (b l : S1024x1024.Idx → Elt F .f32) : S1024x1024.Idx → Elt F .f32 :=
  assemble fun h => k0_pay23 (panel h (Qc m c)) (kvPanel o (128 * h) (kvF m c)) b (panel h l)

def acc1 (c : Dev nD) : S1024x1024.Idx → Elt F .f32 := accAdd m c 1024 (bias1 c) (acc0 m c)
def acc2 (c : Dev nD) : S1024x1024.Idx → Elt F .f32 := accAdd m c 2048 (bias2 c) (acc1 m c)
def acc3 (c : Dev nD) : S1024x1024.Idx → Elt F .f32 := accAdd m c 3072 (bias3 c) (acc2 m c)
def den1 (c : Dev nD) : S1024x1024.Idx → Elt F .f32 := denAdd m c 1024 (bias1 c) (den0 m c)
def den2 (c : Dev nD) : S1024x1024.Idx → Elt F .f32 := denAdd m c 2048 (bias2 c) (den1 m c)
def den3 (c : Dev nD) : S1024x1024.Idx → Elt F .f32 := denAdd m c 3072 (bias3 c) (den2 m c)

/-- The attention's result of all heads, and the projected output. -/
def ctx (c : Dev nD) : S1024x1024.Idx → Elt F .bf16 := assemble fun h => k0_pay42 (panel h (acc3 m c)) (panel h (den3 m c))
def outC (c : Dev nD) : (cc0_stg5_0 : Ref sig .tc).ty.Contents (Elt F) := k0_pay1 (k0_pay43 (ctx m c) (inWo m c))

/-! ## Waits and sends -/

/-- Owing `O`, whatever has been waited for. -/
def ow (c : Dev nD) (O : CellTallies nD τ sig Unit) : sProp 𝕄 := iprop(∃ W, owes (c : Thread nD τ) O W)

/-- A full buffer of the device. -/
abbrev full (c : Dev nD) (b : Ref sig .tc) (f : Buf (Elt F) ((c : Thread nD τ).loc b)) : sProp 𝕄 := ((c : Thread nD τ).loc b) ↦{fullShare} f

abbrev wpc {α : Type} (c : Dev nD) (p : Prog (TpuEff nD τ sig (Elt F) Λ₀ .tc) α) (Q : α → sProp 𝕄) : sProp 𝕄 :=
  wp frame (wpE (defs₀ (F := F)) Variants.none (c : Thread nD τ) none) Set.univ p Q

/-- Waiting for all of a send or receive cell's round: its payload comes. -/
theorem wait_dma (K : Dev nD × Fin 7 → ℕ) (c : Dev nD) (k : Fin 7) (hk : k ≠ 0) (n : ℕ) (hn : lvOf k.castSucc ≤ n) {w : TpuEff nD τ sig (Elt F) Λ₀ .tc PUnit}
    (hw : ∀ Q : PUnit → sProp 𝕄, wpE (defs₀ (F := F)) Variants.none (c : Thread nD τ) none Set.univ w Q = waitSpec (c : Thread nD τ) Set.univ (csem k) N Q)
    {α : Type} {Q : α → sProp 𝕄} {kk : PUnit → Prog (TpuEff nD τ sig (Elt F) Λ₀ .tc) α} (O : CellTallies nD τ sig Unit) (hO : Above n O) :
    iprop(records m K ∗ levAts L lv ∗ cred (tallyAt (kcell (c, k)) () N) ∗ ow c O ∗ atPos ER (kcell (c, k)) 0 ∅ 0)
      ⊢ iprop(((ow c O ∗ atPos ER (kcell (c, k)) 1 ∅ 0 ∗ payOf m c k.castSucc false) -∗ wpc c (kk ⟨⟩) Q) -∗ wpc c (.op w kk) Q) := by
  unfold ow
  iintro ⟨#HR, #Hlev, Hc, ⟨%W, HO⟩, Hat⟩ Hk
  iapply (Rounds.wp_wait_rest_token Variants.none ER (rd m) (c : Thread nD τ) none (κ := K (c, k)) hw (Set.mem_univ _) () (O := O) (W := W) (R := 0) (m := 0) (T := ∅)
      ((Nat.zero_add _).trans (expect_dma m c k hk).symm)) $$ [Hc HO Hat]
  · isplitr; · iapply (inv_of m K (c, k)); iexact HR
    isplitl [Hc]; · iexact Hc
    isplitl [HO]; · iexact HO
    isplitr; · iapply (mayWait c (csem k) n (by rw [kind_csem]; exact hn) O hO); iexact Hlev
    iexact Hat
  iintro ⟨HO, Hat, -, Hpay⟩
  ihave Hp := (Entails.of_eq (rest_dma m c k hk)) $$ Hpay
  iapply Hk
  isplitl [HO]; · iexists _; iexact HO
  isplitl [Hat]; · iexact Hat
  iexact Hp

/-- Passing slot `j` on: half of it goes along until the send is waited for, the next device's slot `j + 1` is filled. -/
theorem send_slot (K : Dev nD × Fin 7 → ℕ) (c n : Dev nD) (hn : n = nxt c) (o o' : ℕ) (j : ℕ) (ho : o = 1024 * j) (ho' : o' = 1024 * (j + 1))
    (h : ∀ a, (![o, 0] : Fin 2 → Nat) a + S1024x2048.size a ≤ S4096x2048.size a)
    (h' : ∀ a, (![o', 0] : Fin 2 → Nat) a + S1024x2048.size a ≤ S4096x2048.size a)
    (s r : Fin 7) (hs : s.castSucc ≠ 0) (hr : r.castSucc ≠ 0)
    (hps : payOf m c s.castSucc false = slotPts c o fullShare.left (kvF m c)) (hpr : payOf m (nxt c) r.castSucc false = slotPts (nxt c) o' fullShare (kvF m (nxt c)))
    {hsc : (slotM o' h' : Memref sig (Dev.tc n : Thread nD τ).2.kind .vmem S1024x2048 .bf16).view.ref.isScScratch = false}
    {hsrc : (slotM o h).view.WordExact} {hdst : (slotM o' h').view.WordExact}
    {hsem : DmaTarget.Typed .vmem (csem r) (.remote (Dev.tc n : Thread nD τ) (slotM o' h') (csem s) hsc)}
    {α : Type} {Q : α → sProp 𝕄} {kk : PUnit → Prog (TpuEff nD τ sig (Elt F) Λ₀ .tc) α} (O' O : CellTallies nD τ sig Unit)
    (hO : O' = O + tallyAt (kcell (nxt c, r)) () N) (hN : (slotM o' h').view.amount (csem r) = N) :
    iprop(records m K ∗ slotPts c o fullShare.left (kvF m c) ∗ (∃ f, slotPts (nxt c) o' fullShare f) ∗ ow c O'
        ∗ dutyTok ER (kcell (c, s)) 0 false ∗ dutyTok ER (kcell (nxt c, r)) 0 false)
      ⊢ iprop(((cred (tallyAt (kcell (c, s)) () N) ∗ ow c O) -∗ wpc c (kk ⟨⟩) Q)
          -∗ wpc c (.op (.enqueueDma (slotM o h) (.remote (Dev.tc n : Thread nD τ) (slotM o' h') (csem s) hsc) (csem r) hsrc hdst hsem) kk) Q) := by
  subst hn ho ho'
  unfold ow
  iintro ⟨#HR, Hs, ⟨%fn, Hd⟩, ⟨%W, HO⟩, Ht1, Ht2⟩ Hk
  iapply (Rounds.wp_send_pointsTo Variants.none ER (rd m) (c : Thread nD τ) none (κ₁ := K (c, s)) (κ₂ := K (nxt c, r))
    (r₁ := 0) (r₂ := 0) (d₁ := false) (d₂ := false) (fd := fn) (q := fullShare.left) (fs := kvF m c)
    (false_mem m c s) (false_mem m (nxt c) r)
    () () N hN ((amount_at m c s false).trans (if_neg hs)) ((amount_at m (nxt c) r false).trans (if_neg hr)) O hO (W := W)
    (by rw [payload_at, hps, slot_set]; exact BI.Entails.refl _)
    (by
      rw [payload_at, hpr, slot_set]; unfold slotPts
      exact Entails.of_eq (pointsTo_congr (landed m c j h h' fn)))) $$ [Hs Hd HO Ht1 Ht2]
  · isplitr; · iapply (inv_of m K (c, s)); iexact HR
    isplitr; · iapply (inv_of m K (nxt c, r)); iexact HR
    isplitl [Hs]; · rw [slot_set]; iapply (Entails.of_eq (show slotPts c (1024 * j) fullShare.left (kvF m c) = ((slotM (1024 * j) h).view.loc (c : Thread nD τ) ↦[slotSet (1024 * j)]{fullShare.left} kvF m c) from rfl)); iexact Hs
    isplitl [Hd]; · rw [slot_set]; iapply (Entails.of_eq (show slotPts (nxt c) (1024 * (j + 1)) fullShare fn = ((slotM (1024 * (j + 1)) h').view.loc (nxt c : Thread nD τ) ↦[slotSet (1024 * (j + 1))]{fullShare} fn) from rfl)); iexact Hd
    isplitl [HO]; · iexact HO
    isplitl [Ht1]; · iexact Ht1
    isplitr; · iapply (reached_of m K (c, s)); iexact HR
    isplitl [Ht2]; · iexact Ht2
    iapply (reached_of m K (nxt c, r)); iexact HR
  iintro ⟨Hc, HO⟩
  iapply Hk
  isplitl [Hc]; · iexact Hc
  iexists W; iexact HO

end Cert.KernelIdeal.Ring

end
-- ==== Proof.Heads.lean ====
/-
The loops over the eight heads. One trip loads a head's columns of the queries, of a slot's keys and of its
values, and stores that head's columns of the weighted values and of the weights; after `k` trips the first
`k` heads hold the new contents and the rest the old ones.
-/
module

public import proofs.«01_k».proof.Proof.Steps

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

theorem off00 : (![0, 0] : Fin 2 → Nat) = fun _ => 0 := funext fun a => by fin_cases a <;> rfl

/-! Whole buffers are read and written as they are. -/

theorem read_bias (f : S1024x1024.Idx → Elt F .f32) :
    biasM.view.readAt (Elt F) (Rect.unit (s := S1024x1024) ![0, 0] S1024x1024.size inb_S1024x1024_S1024x1024_0_0).toLoadRect f = f :=
  Memref.readAt_unit_zero (Elt F) cc0_scratch2 off00 _ f
theorem write_bias (f w : S1024x1024.Idx → Elt F .f32) :
    (biasM.access (Rect.unit (s := S1024x1024) ![0, 0] S1024x1024.size inb_S1024x1024_S1024x1024_0_0)).write (Elt F) f w Finset.univ = w :=
  Memref.write_access_unit_zero_univ (Elt F) cc0_scratch2 off00 _ f w
theorem read_ctx (f : S1024x1024.Idx → Elt F .bf16) :
    qM.view.readAt (Elt F) (Rect.unit (s := S1024x1024) ![0, 0] S1024x1024.size inb_S1024x1024_S1024x1024_0_0).toLoadRect f = f :=
  Memref.readAt_unit_zero (Elt F) cc0_scratch1 off00 _ f
theorem write_queries (f w : S1024x1024.Idx → Elt F .bf16) :
    (qM.access (Rect.unit (s := S1024x1024) ![0, 0] S1024x1024.size inb_S1024x1024_S1024x1024_0_0)).write (Elt F) f w Finset.univ = w :=
  Memref.write_access_unit_zero_univ (Elt F) cc0_scratch1 off00 _ f w

/-- What a loop over heads holds before trip `k`. -/
def headsAt (c : Dev nD) (o : ℕ) (qs : PosShare TreeShare) (kv : Buf (Elt F) ((c : Thread nD τ).loc cc0_scratch0))
    (q : S1024x1024.Idx → Elt F .bf16) (b : S1024x1024.Idx → Elt F .f32) (a a' l l' : S1024x1024.Idx → Elt F .f32) (k : ℕ) : sProp 𝕄 :=
  iprop(slotPts c o qs kv ∗ full c cc0_scratch1 q ∗ full c cc0_scratch2 b ∗ full c cc0_scratch3 (mix k a' a) ∗ full c cc0_scratch4 (mix k l' l))

/-- The rows of a panel of slot `o` lie in the slot. -/
theorem panel_in {o n : ℕ} {off : Fin 2 → ℕ} {inb} (h : off = ![o, n]) :
    kvM.view.setOn (Rect.unit (s := S4096x2048) off S1024x128.size inb).toLoadRect.set ⊆ slotSet o := by
  subst h
  have h2 : (kvM.access (Rect.unit (s := S4096x2048) ![o, n] S1024x128.size inb)).set ⊆ slotSet o := by
    rw [View.set_slice_whole]
    intro i hi
    exact mem_slotSet.mpr (Rect.mem_set_unit.mp hi 0)
  rwa [View.set_slice] at h2

/-- One trip, with whatever it computes from what it loads. -/
theorem head_step (c : Dev nD) (o : ℕ) (ho : o + 1024 ≤ 4096) (qs : PosShare TreeShare) (kv : Buf (Elt F) ((c : Thread nD τ).loc cc0_scratch0))
    (q : S1024x1024.Idx → Elt F .bf16) (b a a' l l' : S1024x1024.Idx → Elt F .f32) {k : ℕ} (hk : k < 8)
    {off₁ off₂ off₃ : Fin 2 → ℕ} (h₁ : off₁ = ![0, 128 * k]) (h₂ : off₂ = ![o, 128 * k]) (h₃ : off₃ = ![o, 128 * k + 1024])
    (i₁ : ∀ x, off₁ x + S1024x128.size x ≤ S1024x1024.size x) (i₂ : ∀ x, off₂ x + S1024x128.size x ≤ S4096x2048.size x)
    (i₃ : ∀ x, off₃ x + S1024x128.size x ≤ S4096x2048.size x)
    (P : Vec F S1024x128 .bf16 → Vec F S1024x128 .bf16 → Vec F S1024x1024 .f32 → Vec F S1024x128 .bf16 → Vec F S1024x128 .f32 → Vec F S1024x128 .f32)
    (R : Vec F S1024x128 .bf16 → Vec F S1024x128 .bf16 → Vec F S1024x1024 .f32 → Vec F S1024x128 .f32 → Vec F S1024x128 .f32)
    (hP : panel k a' = P (panel k q) (kvPanel o (128 * k) kv) b (kvPanel o (128 * k + 1024) kv) (panel k a))
    (hR : panel k l' = R (panel k q) (kvPanel o (128 * k) kv) b (panel k l)) :
    headsAt c o qs kv q b a a' l l' k
      ⊢ wpc c (do
          let x ← Prog.lift (.load qM (Rect.unit (s := S1024x1024) off₁ S1024x128.size i₁).toLoadRect (View.loadsAt_vmem h_S1024x128))
          let y ← Prog.lift (.load kvM (Rect.unit (s := S4096x2048) off₂ S1024x128.size i₂).toLoadRect (View.loadsAt_vmem h_S1024x128))
          let z ← Prog.lift (.load biasM (Rect.unit (s := S1024x1024) ![0, 0] S1024x1024.size inb_S1024x1024_S1024x1024_0_0).toLoadRect (View.loadsAt_vmem h_S1024x1024))
          let v ← Prog.lift (.load kvM (Rect.unit (s := S4096x2048) off₃ S1024x128.size i₃).toLoadRect (View.loadsAt_vmem h_S1024x128))
          let s ← Prog.lift (.load accM (Rect.unit (s := S1024x1024) off₁ S1024x128.size i₁).toLoadRect (View.loadsAt_vmem h_S1024x128))
          Prog.lift (.store accM (Rect.unit (s := S1024x1024) off₁ S1024x128.size i₁) (P x y z v s) Finset.univ (View.stores_vmem_bits_univ h_S1024x128 rfl) (.inl rfl))
          let t ← Prog.lift (.load lM (Rect.unit (s := S1024x1024) off₁ S1024x128.size i₁).toLoadRect (View.loadsAt_vmem h_S1024x128))
          Prog.lift (.store lM (Rect.unit (s := S1024x1024) off₁ S1024x128.size i₁) (R x y z t) Finset.univ (View.stores_vmem_bits_univ h_S1024x128 rfl) (.inl rfl))
          pure ⟨⟩) (fun _ : Unit => headsAt c o qs kv q b a a' l l' (k + 1)) := by
  unfold headsAt slotPts
  iintro ⟨Hs, Hq, Hb, Ha, Hl⟩
  simp only [Prog.lift, Prog.bind_op, Prog.bind_ret, Prog.pure_eq_ret]
  iapply (wp_load Variants.none (c : Thread nD τ) none Set.univ (m := qM) (Finset.subset_univ _)) $$ Hq; iintro Hq; rw [read_q q h₁ hk]
  iapply (wp_load Variants.none (c : Thread nD τ) none Set.univ (m := kvM) (panel_in h₂)) $$ Hs; iintro Hs; rw [read_kv kv h₂ ho (by omega)]
  iapply (wp_load Variants.none (c : Thread nD τ) none Set.univ (m := biasM) (Finset.subset_univ _)) $$ Hb; iintro Hb; rw [read_bias b]
  iapply (wp_load Variants.none (c : Thread nD τ) none Set.univ (m := kvM) (panel_in h₃)) $$ Hs; iintro Hs; rw [read_kv kv h₃ ho (by omega)]
  iapply (wp_load Variants.none (c : Thread nD τ) none Set.univ (m := accM) (Finset.subset_univ _)) $$ Ha; iintro Ha; rw [read_acc _ h₁ hk, panel_mix k hk]
  iapply (wp_store Variants.none (c : Thread nD τ) none Set.univ (m := accM) (r := Rect.unit (s := S1024x1024) off₁ S1024x128.size i₁) (Mk := Finset.univ) (Finset.subset_univ _)) $$ Ha; iintro Ha
  rw [write_acc a' a _ h₁ hk hP]
  iapply (wp_load Variants.none (c : Thread nD τ) none Set.univ (m := lM) (Finset.subset_univ _)) $$ Hl; iintro Hl; rw [read_l _ h₁ hk, panel_mix k hk]
  iapply (wp_store Variants.none (c : Thread nD τ) none Set.univ (m := lM) (r := Rect.unit (s := S1024x1024) off₁ S1024x128.size i₁) (Mk := Finset.univ) (Finset.subset_univ _)) $$ Hl; iintro Hl
  rw [write_l l' l _ h₁ hk hR, wp_ret]
  imodintro
  isplitl [Hs]; · iexact Hs
  isplitl [Hq]; · iexact Hq
  isplitl [Hb]; · iexact Hb
  isplitl [Ha]; · iexact Ha
  iexact Hl

/-- One trip that adds to what is there: the columns it stores to are loaded twice. -/
theorem head_step_add (c : Dev nD) (o : ℕ) (ho : o + 1024 ≤ 4096) (qs : PosShare TreeShare) (kv : Buf (Elt F) ((c : Thread nD τ).loc cc0_scratch0))
    (q : S1024x1024.Idx → Elt F .bf16) (b a a' l l' : S1024x1024.Idx → Elt F .f32) {k : ℕ} (hk : k < 8)
    {off₁ off₂ off₃ : Fin 2 → ℕ} (h₁ : off₁ = ![0, 128 * k]) (h₂ : off₂ = ![o, 128 * k]) (h₃ : off₃ = ![o, 128 * k + 1024])
    (i₁ : ∀ x, off₁ x + S1024x128.size x ≤ S1024x1024.size x) (i₂ : ∀ x, off₂ x + S1024x128.size x ≤ S4096x2048.size x)
    (i₃ : ∀ x, off₃ x + S1024x128.size x ≤ S4096x2048.size x)
    (P : Vec F S1024x128 .bf16 → Vec F S1024x128 .bf16 → Vec F S1024x1024 .f32 → Vec F S1024x128 .bf16 → Vec F S1024x128 .f32 → Vec F S1024x128 .f32)
    (R : Vec F S1024x128 .bf16 → Vec F S1024x128 .bf16 → Vec F S1024x1024 .f32 → Vec F S1024x128 .f32 → Vec F S1024x128 .f32)
    (hP : panel k a' = P (panel k q) (kvPanel o (128 * k) kv) b (kvPanel o (128 * k + 1024) kv) (panel k a))
    (hR : panel k l' = R (panel k q) (kvPanel o (128 * k) kv) b (panel k l)) :
    headsAt c o qs kv q b a a' l l' k
      ⊢ wpc c (do
          let x ← Prog.lift (.load qM (Rect.unit (s := S1024x1024) off₁ S1024x128.size i₁).toLoadRect (View.loadsAt_vmem h_S1024x128))
          let y ← Prog.lift (.load kvM (Rect.unit (s := S4096x2048) off₂ S1024x128.size i₂).toLoadRect (View.loadsAt_vmem h_S1024x128))
          let z ← Prog.lift (.load biasM (Rect.unit (s := S1024x1024) ![0, 0] S1024x1024.size inb_S1024x1024_S1024x1024_0_0).toLoadRect (View.loadsAt_vmem h_S1024x1024))
          let v ← Prog.lift (.load kvM (Rect.unit (s := S4096x2048) off₃ S1024x128.size i₃).toLoadRect (View.loadsAt_vmem h_S1024x128))
          let s ← Prog.lift (.load accM (Rect.unit (s := S1024x1024) off₁ S1024x128.size i₁).toLoadRect (View.loadsAt_vmem h_S1024x128))
          let _s ← Prog.lift (.load accM (Rect.unit (s := S1024x1024) off₁ S1024x128.size i₁).toLoadRect (View.loadsAt_vmem h_S1024x128))
          Prog.lift (.store accM (Rect.unit (s := S1024x1024) off₁ S1024x128.size i₁) (P x y z v s) Finset.univ (View.stores_vmem_bits_univ h_S1024x128 rfl) (.inl rfl))
          let t ← Prog.lift (.load lM (Rect.unit (s := S1024x1024) off₁ S1024x128.size i₁).toLoadRect (View.loadsAt_vmem h_S1024x128))
          let _t ← Prog.lift (.load lM (Rect.unit (s := S1024x1024) off₁ S1024x128.size i₁).toLoadRect (View.loadsAt_vmem h_S1024x128))
          Prog.lift (.store lM (Rect.unit (s := S1024x1024) off₁ S1024x128.size i₁) (R x y z t) Finset.univ (View.stores_vmem_bits_univ h_S1024x128 rfl) (.inl rfl))
          pure ⟨⟩) (fun _ : Unit => headsAt c o qs kv q b a a' l l' (k + 1)) := by
  unfold headsAt slotPts
  iintro ⟨Hs, Hq, Hb, Ha, Hl⟩
  simp only [Prog.lift, Prog.bind_op, Prog.bind_ret, Prog.pure_eq_ret]
  iapply (wp_load Variants.none (c : Thread nD τ) none Set.univ (m := qM) (Finset.subset_univ _)) $$ Hq; iintro Hq; rw [read_q q h₁ hk]
  iapply (wp_load Variants.none (c : Thread nD τ) none Set.univ (m := kvM) (panel_in h₂)) $$ Hs; iintro Hs; rw [read_kv kv h₂ ho (by omega)]
  iapply (wp_load Variants.none (c : Thread nD τ) none Set.univ (m := biasM) (Finset.subset_univ _)) $$ Hb; iintro Hb; rw [read_bias b]
  iapply (wp_load Variants.none (c : Thread nD τ) none Set.univ (m := kvM) (panel_in h₃)) $$ Hs; iintro Hs; rw [read_kv kv h₃ ho (by omega)]
  iapply (wp_load Variants.none (c : Thread nD τ) none Set.univ (m := accM) (Finset.subset_univ _)) $$ Ha; iintro Ha; rw [read_acc _ h₁ hk, panel_mix k hk]
  iapply (wp_load Variants.none (c : Thread nD τ) none Set.univ (m := accM) (Finset.subset_univ _)) $$ Ha; iintro Ha
  iapply (wp_store Variants.none (c : Thread nD τ) none Set.univ (m := accM) (r := Rect.unit (s := S1024x1024) off₁ S1024x128.size i₁) (Mk := Finset.univ) (Finset.subset_univ _)) $$ Ha; iintro Ha
  rw [write_acc a' a _ h₁ hk hP]
  iapply (wp_load Variants.none (c : Thread nD τ) none Set.univ (m := lM) (Finset.subset_univ _)) $$ Hl; iintro Hl; rw [read_l _ h₁ hk, panel_mix k hk]
  iapply (wp_load Variants.none (c : Thread nD τ) none Set.univ (m := lM) (Finset.subset_univ _)) $$ Hl; iintro Hl
  iapply (wp_store Variants.none (c : Thread nD τ) none Set.univ (m := lM) (r := Rect.unit (s := S1024x1024) off₁ S1024x128.size i₁) (Mk := Finset.univ) (Finset.subset_univ _)) $$ Hl; iintro Hl
  rw [write_l l' l _ h₁ hk hR, wp_ret]
  imodintro
  isplitl [Hs]; · iexact Hs
  isplitl [Hq]; · iexact Hq
  isplitl [Hb]; · iexact Hb
  isplitl [Ha]; · iexact Ha
  iexact Hl

theorem panel_accAdd (c : Dev nD) (o : ℕ) (b a : S1024x1024.Idx → Elt F .f32) {k : ℕ} (hk : k < 8) :
    panel k (accAdd m c o b a) = k0_pay22 (panel k (Qc m c)) (kvPanel o (128 * k) (kvF m c)) b (kvPanel o (128 * k + 1024) (kvF m c)) (panel k a) := by
  unfold accAdd; exact panel_assemble _ _ hk
theorem panel_denAdd (c : Dev nD) (o : ℕ) (b l : S1024x1024.Idx → Elt F .f32) {k : ℕ} (hk : k < 8) :
    panel k (denAdd m c o b l) = k0_pay23 (panel k (Qc m c)) (kvPanel o (128 * k) (kvF m c)) b (panel k l) := by
  unfold denAdd; exact panel_assemble _ _ hk

/-- The loop over heads, given one trip. -/
theorem heads_loop (c : Dev nD) (o : ℕ) (qs : PosShare TreeShare) (kv : Buf (Elt F) ((c : Thread nD τ).loc cc0_scratch0))
    (q : S1024x1024.Idx → Elt F .bf16) (b a a' l l' : S1024x1024.Idx → Elt F .f32) {lb ub st : BitVec 32} (hok : Scf.OK lb ub st)
    (body : Fin (Scf.trips lb ub st) → Unit → Prog (TpuEff nD τ sig (Elt F) Λ₀ .tc) Unit) (ht : Scf.trips lb ub st = 8)
    (hbody : ∀ k, headsAt c o qs kv q b a a' l l' k.val ⊢ wpc c (body k ⟨⟩) (fun _ => headsAt c o qs kv q b a a' l l' (k.val + 1)))
    (Q : Unit → sProp 𝕄) :
    iprop((slotPts c o qs kv ∗ full c cc0_scratch1 q ∗ full c cc0_scratch2 b ∗ full c cc0_scratch3 a ∗ full c cc0_scratch4 l)
        ∗ ((slotPts c o qs kv ∗ full c cc0_scratch1 q ∗ full c cc0_scratch2 b ∗ full c cc0_scratch3 a' ∗ full c cc0_scratch4 l') -∗ Q ⟨⟩))
      ⊢ wpc c (Scf.for lb ub st hok ⟨⟩ body) Q := by
  have h := Scf.wp_for frame (wpE (defs₀ (F := F)) Variants.none (c : Thread nD τ) none) Set.univ lb ub st hok ⟨⟩ body
    (fun k _ => headsAt c o qs kv q b a a' l l' k) (fun k _ => hbody k) (Q := Q)
  rw [ht] at h; unfold headsAt at h; rw [mix_zero, mix_zero, mix_eight, mix_eight] at h
  iintro ⟨H, Hk⟩
  iapply h
  isplitl [H]; · iexact H
  iintro %u; iexact Hk

theorem loop1 (c : Dev nD) (qs : PosShare TreeShare)  (v6 : BitVec 32) (v73 : IVec S1024x1 32) (v101 : IVec S1x1024 32) (v106 : IVec S1024x1024 32) (v107 : IVec S1024x1024 32) (a l : S1024x1024.Idx → Elt F .f32) (Q : Unit → sProp 𝕄) :
    iprop((slotPts c 0 qs (kvF m c) ∗ full c cc0_scratch1 (Qc m c) ∗ full c cc0_scratch2 (bias0 c) ∗ full c cc0_scratch3 a ∗ full c cc0_scratch4 l)
        ∗ ((slotPts c 0 qs (kvF m c) ∗ full c cc0_scratch1 (Qc m c) ∗ full c cc0_scratch2 (bias0 c) ∗ full c cc0_scratch3 (acc0 m c) ∗ full c cc0_scratch4 (den0 m c)) -∗ Q ⟨⟩))
      ⊢ wpc c (Scf.Loop.for k0_t1_loop k0_t1_ok ⟨⟩ (k0_t1_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 v6 v73 v101 v106 v107)) Q := by
  refine heads_loop c 0 qs (kvF m c) (Qc m c) (bias0 c) a (acc0 m c) l (den0 m c) k0_t1_ok _ (by decide) (fun k => ?_) Q
  have hk : k.val < 8 := lt_of_lt_of_eq k.isLt (by decide)
  exact head_step c 0 (by norm_num) qs (kvF m c) (Qc m c) (bias0 c) a (acc0 m c) l (den0 m c) hk (k0_off1_eq k) (k0_off2_eq k) (k0_off3_eq k)
    (k0_off1_inb k) (k0_off2_inb k) (k0_off3_inb k) (fun x y z v _ => k0_pay13 x y z v) (fun x y z _ => k0_pay14 x y z) (panel_assemble _ _ hk) (panel_assemble _ _ hk)

theorem loop2 (c : Dev nD) (qs : PosShare TreeShare)  (v6 : BitVec 32) (v222 : IVec S1024x1024 1) (v224 : IVec S1024x1024 1)  (Q : Unit → sProp 𝕄) :
    iprop((slotPts c 1024 qs (kvF m c) ∗ full c cc0_scratch1 (Qc m c) ∗ full c cc0_scratch2 (bias1 c) ∗ full c cc0_scratch3 (acc0 m c) ∗ full c cc0_scratch4 (den0 m c))
        ∗ ((slotPts c 1024 qs (kvF m c) ∗ full c cc0_scratch1 (Qc m c) ∗ full c cc0_scratch2 (bias1 c) ∗ full c cc0_scratch3 (acc1 m c) ∗ full c cc0_scratch4 (den1 m c)) -∗ Q ⟨⟩))
      ⊢ wpc c (Scf.Loop.for k0_t2_loop k0_t2_ok ⟨⟩ (k0_t2_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 v6 v222 v224)) Q := by
  refine heads_loop c 1024 qs (kvF m c) (Qc m c) (bias1 c) (acc0 m c) (acc1 m c) (den0 m c) (den1 m c) k0_t2_ok _ (by decide) (fun k => ?_) Q
  have hk : k.val < 8 := lt_of_lt_of_eq k.isLt (by decide)
  exact head_step_add c 1024 (by norm_num) qs (kvF m c) (Qc m c) (bias1 c) (acc0 m c) (acc1 m c) (den0 m c) (den1 m c) hk (k0_off4_eq k) (k0_off5_eq k) (k0_off6_eq k)
    (k0_off4_inb k) (k0_off5_inb k) (k0_off6_inb k) (k0_pay22) (k0_pay23) (panel_accAdd m c _ _ _ hk) (panel_denAdd m c _ _ _ hk)

theorem loop3 (c : Dev nD) (qs : PosShare TreeShare)  (v2 : BitVec 32) (v6 : BitVec 32) (c0_i32_166 : BitVec 32) (c1_i32_168 : BitVec 32)  (Q : Unit → sProp 𝕄) :
    iprop((slotPts c 2048 qs (kvF m c) ∗ full c cc0_scratch1 (Qc m c) ∗ full c cc0_scratch2 (bias2 c) ∗ full c cc0_scratch3 (acc1 m c) ∗ full c cc0_scratch4 (den1 m c))
        ∗ ((slotPts c 2048 qs (kvF m c) ∗ full c cc0_scratch1 (Qc m c) ∗ full c cc0_scratch2 (bias2 c) ∗ full c cc0_scratch3 (acc2 m c) ∗ full c cc0_scratch4 (den2 m c)) -∗ Q ⟨⟩))
      ⊢ wpc c (Scf.Loop.for k0_t3_loop k0_t3_ok ⟨⟩ (k0_t3_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 v2 v6 c0_i32_166 c1_i32_168)) Q := by
  refine heads_loop c 2048 qs (kvF m c) (Qc m c) (bias2 c) (acc1 m c) (acc2 m c) (den1 m c) (den2 m c) k0_t3_ok _ (by decide) (fun k => ?_) Q
  have hk : k.val < 8 := lt_of_lt_of_eq k.isLt (by decide)
  exact head_step_add c 2048 (by norm_num) qs (kvF m c) (Qc m c) (bias2 c) (acc1 m c) (acc2 m c) (den1 m c) (den2 m c) hk (k0_off7_eq k) (k0_off8_eq k) (k0_off9_eq k)
    (k0_off7_inb k) (k0_off8_inb k) (k0_off9_inb k) (k0_pay22) (k0_pay23) (panel_accAdd m c _ _ _ hk) (panel_denAdd m c _ _ _ hk)

theorem loop4 (c : Dev nD) (qs : PosShare TreeShare)   (Q : Unit → sProp 𝕄) :
    iprop((slotPts c 3072 qs (kvF m c) ∗ full c cc0_scratch1 (Qc m c) ∗ full c cc0_scratch2 (bias3 c) ∗ full c cc0_scratch3 (acc2 m c) ∗ full c cc0_scratch4 (den2 m c))
        ∗ ((slotPts c 3072 qs (kvF m c) ∗ full c cc0_scratch1 (Qc m c) ∗ full c cc0_scratch2 (bias3 c) ∗ full c cc0_scratch3 (acc3 m c) ∗ full c cc0_scratch4 (den3 m c)) -∗ Q ⟨⟩))
      ⊢ wpc c (Scf.Loop.for k0_t4_loop k0_t4_ok ⟨⟩ (k0_t4_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 )) Q := by
  refine heads_loop c 3072 qs (kvF m c) (Qc m c) (bias3 c) (acc2 m c) (acc3 m c) (den2 m c) (den3 m c) k0_t4_ok _ (by decide) (fun k => ?_) Q
  have hk : k.val < 8 := lt_of_lt_of_eq k.isLt (by decide)
  exact head_step_add c 3072 (by norm_num) qs (kvF m c) (Qc m c) (bias3 c) (acc2 m c) (acc3 m c) (den2 m c) (den3 m c) hk (k0_off10_eq k) (k0_off11_eq k) (k0_off12_eq k)
    (k0_off10_inb k) (k0_off11_inb k) (k0_off12_inb k) (k0_pay22) (k0_pay23) (panel_accAdd m c _ _ _ hk) (panel_denAdd m c _ _ _ hk)

/-- One head of the last loop: its weighted values over its weights, in the place of its queries. -/
theorem norm_step (c : Dev nD) {k : ℕ} (hk : k < 8) {off₁ : Fin 2 → ℕ} (h₁ : off₁ = ![0, 128 * k])
    (i₁ : ∀ x, off₁ x + S1024x128.size x ≤ S1024x1024.size x) (q z : S1024x1024.Idx → Elt F .bf16) (a l : S1024x1024.Idx → Elt F .f32)
    (P : Vec F S1024x128 .f32 → Vec F S1024x128 .f32 → Vec F S1024x128 .bf16) (hP : panel k z = P (panel k a) (panel k l))
    {hst : (qM.access (Rect.unit (s := S1024x1024) off₁ S1024x128.size i₁)).Stores Finset.univ} :
    iprop(full c cc0_scratch1 (mix k z q) ∗ full c cc0_scratch3 a ∗ full c cc0_scratch4 l)
      ⊢ wpc c (do
          let x ← Prog.lift (.load accM (Rect.unit (s := S1024x1024) off₁ S1024x128.size i₁).toLoadRect (View.loadsAt_vmem h_S1024x128))
          let y ← Prog.lift (.load lM (Rect.unit (s := S1024x1024) off₁ S1024x128.size i₁).toLoadRect (View.loadsAt_vmem h_S1024x128))
          let _s ← Prog.lift (.load qM (Rect.unit (s := S1024x1024) off₁ S1024x128.size i₁).toLoadRect (View.loadsAt_vmem h_S1024x128))
          Prog.lift (.store qM (Rect.unit (s := S1024x1024) off₁ S1024x128.size i₁) (P x y) Finset.univ hst (.inl rfl))
          pure ⟨⟩) (fun _ : Unit => iprop(full c cc0_scratch1 (mix (k + 1) z q) ∗ full c cc0_scratch3 a ∗ full c cc0_scratch4 l)) := by
  iintro ⟨Hq, Ha, Hl⟩
  simp only [Prog.lift, Prog.bind_op, Prog.bind_ret, Prog.pure_eq_ret]
  iapply (wp_load Variants.none (c : Thread nD τ) none Set.univ (m := accM) (Finset.subset_univ _)) $$ Ha; iintro Ha; rw [read_acc _ h₁ hk]
  iapply (wp_load Variants.none (c : Thread nD τ) none Set.univ (m := lM) (Finset.subset_univ _)) $$ Hl; iintro Hl; rw [read_l _ h₁ hk]
  iapply (wp_load Variants.none (c : Thread nD τ) none Set.univ (m := qM) (Finset.subset_univ _)) $$ Hq; iintro Hq
  iapply (wp_store Variants.none (c : Thread nD τ) none Set.univ (m := qM) (r := Rect.unit (s := S1024x1024) off₁ S1024x128.size i₁) (Mk := Finset.univ) (Finset.subset_univ _)) $$ Hq; iintro Hq
  rw [write_q z q _ h₁ hk hP, wp_ret]
  imodintro
  isplitl [Hq]; · iexact Hq
  isplitl [Ha]; · iexact Ha
  iexact Hl

theorem loop5 (c : Dev nD)  (Q : Unit → sProp 𝕄) :
    iprop((full c cc0_scratch1 (Qc m c) ∗ full c cc0_scratch3 (acc3 m c) ∗ full c cc0_scratch4 (den3 m c))
        ∗ ((full c cc0_scratch1 (ctx m c) ∗ full c cc0_scratch3 (acc3 m c) ∗ full c cc0_scratch4 (den3 m c)) -∗ Q ⟨⟩))
      ⊢ wpc c (Scf.Loop.for k0_t5_loop k0_t5_ok ⟨⟩ (k0_t5_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 )) Q := by
  have h := Scf.wp_for frame (wpE (defs₀ (F := F)) Variants.none (c : Thread nD τ) none) Set.univ k0_t5_loop.lb k0_t5_loop.ub k0_t5_loop.st k0_t5_ok ⟨⟩
    (k0_t5_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 )
    (fun k _ => iprop(full c cc0_scratch1 (mix k (ctx m c) (Qc m c)) ∗ full c cc0_scratch3 (acc3 m c) ∗ full c cc0_scratch4 (den3 m c)))
    (fun k _ => by
      have hk : k.val < 8 := lt_of_lt_of_eq k.isLt (by decide)
      exact norm_step c hk (k0_off13_eq k) (k0_off13_inb k) (Qc m c) (ctx m c) (acc3 m c) (den3 m c) k0_pay42 (panel_assemble _ _ hk)) (Q := Q)
  rw [show Scf.trips k0_t5_loop.lb k0_t5_loop.ub k0_t5_loop.st = 8 by decide, mix_zero, mix_eight] at h
  iintro ⟨H, Hk⟩
  iapply h
  isplitl [H]; · iexact H
  iintro %u; iexact Hk

end Cert.KernelIdeal.Ring

end
-- ==== Proof.Parts.lean ====
/-
The parts of a device's program, each from what it needs to what it leaves: the barrier and the storing of
the device's own block, the three hops with the chunks between them, and the output.
-/
module

public import proofs.«01_k».proof.Proof.Heads

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : Dev nD × Fin 7 → ℕ)

theorem off000 : (![0, 0, 0] : Fin 3 → Nat) = fun _ => 0 := funext fun a => by fin_cases a <;> rfl
theorem off0000 : (![0, 0, 0, 0] : Fin 4 → Nat) = fun _ => 0 := funext fun a => by fin_cases a <;> rfl

/-- Waiting for a copied slot. -/
theorem wait_slot (c : Dev nD) (k : Fin 7) (hk : k ≠ 0) (sm : DmaSem sig) (hsm : csem k = .dma sm) (n : ℕ) (hn : lvOf k.castSucc ≤ n)
    (O : CellTallies nD τ sig Unit) (hO : Above n O) {o o' : ℕ} {h h'} {hs : (slotM o h).view.WordExact} {hd : (slotM o' h').view.WordExact}
    {α : Type} {Q : α → sProp 𝕄} {kk : PUnit → Prog (TpuEff nD τ sig (Elt F) Λ₀ .tc) α} :
    iprop(records m K ∗ levAts L lv ∗ cred (tallyAt (kcell (c, k)) () N) ∗ ow c O ∗ atPos ER (kcell (c, k)) 0 ∅ 0)
      ⊢ iprop(((ow c O ∗ atPos ER (kcell (c, k)) 1 ∅ 0 ∗ payOf m c k.castSucc false) -∗ wpc c (kk ⟨⟩) Q)
          -∗ wpc c (.op (.waitDma2 sm (slotM o h) (slotM o' h') hs hd) kk) Q) :=
  wait_dma m K c k hk n hn (fun Q' => by rw [wpE_waitDma2_eq, hsm]) O hO

/-- A rectangle whose rows lie in a slot lies in the slot. -/
theorem rows_in {o n : ℕ} {sz : Fin 2 → ℕ} (hsz : sz 0 = 1024) {inb} :
    (kvM.access (Rect.unit (s := S4096x2048) ![o, n] sz inb)).set ⊆ slotSet o := by
  rw [View.set_slice_whole]
  intro i hi
  have h := Rect.mem_set_unit.mp hi 0
  rw [hsz] at h
  exact mem_slotSet.mpr h

theorem rows_in_load {o n : ℕ} {sz : Fin 2 → ℕ} (hsz : sz 0 = 1024) {inb} :
    kvM.view.setOn (Rect.unit (s := S4096x2048) ![o, n] sz inb).toLoadRect.set ⊆ slotSet o := by
  have h := rows_in (o := o) (n := n) hsz (inb := inb)
  rwa [View.set_slice] at h

/-- The four slots make up the buffer. -/
theorem split_slots (c : Dev nD) (f : Buf (Elt F) ((c : Thread nD τ).loc cc0_scratch0)) :
    full c cc0_scratch0 f ⊣⊢ iprop(slotPts c 0 fullShare f ∗ slotPts c 1024 fullShare f ∗ slotPts c 2048 fullShare f ∗ slotPts c 3072 fullShare f) := by
  have hd : ∀ t ∈ (Finset.univ : Finset (Fin 4)), ∀ t' ∈ (Finset.univ : Finset (Fin 4)), t ≠ t' → Disjoint (slotSet (1024 * t.val)) (slotSet (1024 * t'.val)) := by
    intro t _ t' _ hne
    rw [Finset.disjoint_left]
    intro i h1 h2
    have h1 := mem_slotSet.mp h1
    have h2 := mem_slotSet.mp h2
    exact hne (Fin.ext (by omega))
  have hu : (Finset.univ : Finset S4096x2048.Idx) = (Finset.univ : Finset (Fin 4)).biUnion fun t => slotSet (1024 * t.val) := by
    ext i
    simp only [Finset.mem_univ, Finset.mem_biUnion, true_and, true_iff]
    have hi : (i 0).val < 4096 := (i 0).isLt
    exact ⟨⟨(i 0).val / 1024, by omega⟩, mem_slotSet.mpr (by dsimp only; omega)⟩
  have h := pointsTo_biUnion (Ix := Unit) (Name := ℕ) (U := UU) (Lvl := ℕ) (ℓ := (c : Thread nD τ).loc cc0_scratch0) (q := fullShare) (f := f) Finset.univ (fun t : Fin 4 => slotSet (1024 * t.val)) hd
  rw [bigSep_univ_eq_bigSepL [0, 1, 2, 3] (by decide) (by decide)] at h
  have h' : (((c : Thread nD τ).loc cc0_scratch0 ↦{fullShare} f : sProp 𝕄)) = _ := (congrArg (fun S => ((c : Thread nD τ).loc cc0_scratch0 ↦[S]{fullShare} f : sProp 𝕄)) hu).trans h
  rw [full, h']
  exact ⟨BI.Entails.refl _, BI.Entails.refl _⟩

/-- The barrier: the other slots go to the device before, the next device's come; then the own block is stored. -/
theorem part1 (c : Dev nD) (f : Buf (Elt F) ((c : Thread nD τ).loc cc0_scratch0))
    (Q : (Σ' (_ : Dev nD) (_ : BitVec 32) (_ : BitVec 32), BitVec 32) → sProp 𝕄) :
    iprop((records m K ∗ levAts L lv ∗ ow c (O₀ c) ∗ cred (tallyAt (kcell (c, 0)) () 2) ∗ atPos ER (kcell (c, 0)) 0 ∅ 0
          ∗ dutyTok ER (kcell (nxt c, 0)) 0 false ∗ dutyTok ER (kcell (prv c, 0)) 0 true
          ∗ full c cc0_stg2_0 (inK m c) ∗ full c cc0_stg3_0 (inV m c) ∗ full c cc0_scratch0 f)
        ∗ (∀ w6 w24, (ow c (O1 c) ∗ atPos ER (kcell (c, 0)) 1 ∅ 0 ∗ full c cc0_stg2_0 (inK m c) ∗ full c cc0_stg3_0 (inV m c)
              ∗ slotPts c 0 fullShare (kvF m c) ∗ barPay c)
            -∗ Q ⟨c, word c, w6, w24⟩))
      ⊢ wpc c (k0_part1 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6) Q := by
  rw [k0_part1_eq_skeleton]; unfold k0_part1_skel
  simp only [semSignalWord, semWaitWord, Prog.lift, Prog.bind_op, Prog.bind_ret, Prog.pure_eq_ret, wp_deviceId]
  simp only [dev1_eq c, dev2_eq c]
  unfold ow
  iintro ⟨⟨#HR, #Hlev, ⟨%W, HO⟩, Hc, Hat, HtN, HtP, HK, HV, Hkv⟩, Hk⟩
  ihave Hs := (split_slots c f).1 $$ Hkv
  icases Hs with ⟨Hs0, Hs1, Hs2, Hs3⟩
  iapply (Rounds.wp_signal Variants.none ER (rd m) (c : Thread nD τ) none (dst := (prv c : Thread nD τ)) (κ := K (prv c, 0))
      (d := true) (true_mem m (prv c)) ((amount_at m (prv c) 0 true).trans (by decide)) () (Ob c) rfl) $$ [HO HtP Hs1 Hs2 Hs3]
  · isplitr; · iapply (inv_of m K (prv c, 0)); iexact HR
    isplitl [HO]; · iexact HO
    isplitl [HtP]; · iexact HtP
    isplitl [Hs1 Hs2 Hs3]
    · iapply (Entails.of_eq (show barPay (F := F) (prv c) = _ from (payload_at m (prv c) 0 true).symm))
      unfold barPay; rw [nxt_prv]
      isplitl [Hs1]; · iexists f; iexact Hs1
      isplitl [Hs2]; · iexists f; iexact Hs2
      iexists f; iexact Hs3
    iapply (reached_of m K (prv c, 0)); iexact HR
  iintro HO
  iapply (Rounds.wp_signal Variants.none ER (rd m) (c : Thread nD τ) none (dst := (nxt c : Thread nD τ)) (κ := K (nxt c, 0))
      (d := false) (false_mem m (nxt c) 0) ((amount_at m (nxt c) 0 false).trans (by decide)) () (O1 c) rfl) $$ [HO HtN]
  · isplitr; · iapply (inv_of m K (nxt c, 0)); iexact HR
    isplitl [HO]; · iexact HO
    isplitl [HtN]; · iexact HtN
    isplitr
    · iapply (Entails.of_eq (show (iprop(emp) : sProp 𝕄) = _ from (payload_at m (nxt c) 0 false).symm)); iempintro
    iapply (reached_of m K (nxt c, 0)); iexact HR
  iintro HO
  iapply (Rounds.wp_wait_rest_token Variants.none ER (rd m) (c : Thread nD τ) none (κ := K (c, 0))
      (wpE_semWait_eq Variants.none (c : Thread nD τ) none Set.univ) (Set.mem_univ _) () (O := O1 c) (W := W) (R := 0) (m := 0) (T := ∅)
      (by rw [show ((c : Thread nD τ), _) = kcell (c, 0) from rfl, expect_bar]; decide)) $$ [Hc HO Hat]
  · isplitr; · iapply (inv_of m K (c, 0)); iexact HR
    isplitl [Hc]; · iexact Hc
    isplitl [HO]; · iexact HO
    isplitr; · iapply (mayWait c (csem 0) 1 (by rw [kind_csem]; decide) (O1 c) (above_O1 c)); iexact Hlev
    iexact Hat
  iintro ⟨HO, Hat, -, Hpay⟩
  ihave Hp := (Entails.of_eq (rest_bar m c)) $$ Hpay
  icases Hp with ⟨-, Hbp⟩
  iapply (wp_load Variants.none (c : Thread nD τ) none Set.univ (m := Memref.whole cc0_stg2_0) (Finset.subset_univ _)) $$ HK; iintro HK
  rw [show (Memref.whole cc0_stg2_0 : Memref sig .tc .vmem S1x1024x8x128 .bf16).view.readAt (Elt F) (Rect.unit (s := S1x1024x8x128) ![0, 0, 0, 0] S1x1024x8x128.size inb_S1x1024x8x128_S1x1024x8x128_0_0_0_0).toLoadRect (inK m c) = inK m c from
    Memref.readAt_unit_zero (Elt F) cc0_stg2_0 off0000 _ _]
  unfold slotPts
  iapply (wp_load Variants.none (c : Thread nD τ) none Set.univ (m := kvM) (rows_in_load rfl)) $$ Hs0; iintro Hs0
  iapply (wp_store Variants.none (c : Thread nD τ) none Set.univ (m := kvM) (r := Rect.unit (s := S4096x2048) ![0, 0] S1024x1024.size inb_S4096x2048_S1024x1024_0_0) (Mk := Finset.univ) (rows_in rfl)) $$ Hs0; iintro Hs0
  iapply (wp_load Variants.none (c : Thread nD τ) none Set.univ (m := Memref.whole cc0_stg3_0) (Finset.subset_univ _)) $$ HV; iintro HV
  rw [show (Memref.whole cc0_stg3_0 : Memref sig .tc .vmem S1x1024x8x128 .bf16).view.readAt (Elt F) (Rect.unit (s := S1x1024x8x128) ![0, 0, 0, 0] S1x1024x8x128.size inb_S1x1024x8x128_S1x1024x8x128_0_0_0_0).toLoadRect (inV m c) = inV m c from
    Memref.readAt_unit_zero (Elt F) cc0_stg3_0 off0000 _ _]
  iapply (wp_load Variants.none (c : Thread nD τ) none Set.univ (m := kvM) (rows_in_load rfl)) $$ Hs0; iintro Hs0
  iapply (wp_store Variants.none (c : Thread nD τ) none Set.univ (m := kvM) (r := Rect.unit (s := S4096x2048) ![0, 1024] S1024x1024.size inb_S4096x2048_S1024x1024_0_1024) (Mk := Finset.univ) (rows_in rfl)) $$ Hs0; iintro Hs0
  rw [wp_ret]; imodintro
  iapply Hk
  isplitl [HO]; · iexists _; iexact HO
  isplitl [Hat]; · iexact Hat
  isplitl [HK]; · iexact HK
  isplitl [HV]; · iexact HV
  isplitl [Hs0]
  · iapply (Entails.of_eq (pointsTo_congr (ℓ := (c : Thread nD τ).loc cc0_scratch0) (q := fullShare) (stored m c f (inb := inb_S4096x2048_S1024x1024_0_0) (inb' := inb_S4096x2048_S1024x1024_0_1024)))); iexact Hs0
  iexact Hbp

end Cert.KernelIdeal.Ring

end
-- ==== Proof.Hops.lean ====
/-
The parts of a device's program after the barrier, each from what it needs to what it leaves: the three hops
with the chunks between them.
-/
module

public import proofs.«01_k».proof.Proof.Parts

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : Dev nD × Fin 7 → ℕ)

/-- One program after another. -/
theorem wpc_seq {α β : Type} (c : Dev nD) {p : Prog (TpuEff nD τ sig (Elt F) Λ₀ .tc) α} {kk : α → Prog (TpuEff nD τ sig (Elt F) Λ₀ .tc) β} {Q : β → sProp 𝕄} :
    wpc c p (fun a => wpc c (kk a) Q) ⊢ wpc c (p >>= kk) Q := by
  unfold wpc; rw [wp_bind]

/-- A program that is done. -/
theorem wpc_ret {α : Type} (c : Dev nD) {a : α} {Q : α → sProp 𝕄} : Q a ⊢ wpc c (Prog.ret a) Q := by
  unfold wpc; rw [wp_ret]; iintro H; imodintro; iexact H

/-- A slot in two halves. -/
theorem halves (c : Dev nD) (o : ℕ) (f : Buf (Elt F) ((c : Thread nD τ).loc cc0_scratch0)) :
    slotPts c o fullShare f ⊣⊢ iprop(slotPts c o fullShare.left f ∗ slotPts c o fullShare.right f) := by
  unfold slotPts; exact pointsTo_share (PosShare.mem_left_op_right _)

theorem read_x (f : (cc0_stg0_0 : Ref sig .tc).ty.Contents (Elt F)) :
    (Memref.whole cc0_stg0_0 : Memref sig .tc .vmem S1x1024x1024 .bf16).view.readAt (Elt F) (Rect.unit (s := S1x1024x1024) ![0, 0, 0] S1x1024x1024.size inb_S1x1024x1024_S1x1024x1024_0_0_0).toLoadRect f = f :=
  Memref.readAt_unit_zero (Elt F) cc0_stg0_0 off000 _ f
theorem read_wq (f : (cc0_stg1_0 : Ref sig .tc).ty.Contents (Elt F)) :
    (Memref.whole cc0_stg1_0 : Memref sig .tc .vmem S1024x1024 .bf16).view.readAt (Elt F) (Rect.unit (s := S1024x1024) ![0, 0] S1024x1024.size inb_S1024x1024_S1024x1024_0_0).toLoadRect f = f :=
  Memref.readAt_unit_zero (Elt F) cc0_stg1_0 off00 _ f
theorem read_wo (f : (cc0_stg4_0 : Ref sig .tc).ty.Contents (Elt F)) :
    (Memref.whole cc0_stg4_0 : Memref sig .tc .vmem S1024x1024 .bf16).view.readAt (Elt F) (Rect.unit (s := S1024x1024) ![0, 0] S1024x1024.size inb_S1024x1024_S1024x1024_0_0).toLoadRect f = f :=
  Memref.readAt_unit_zero (Elt F) cc0_stg4_0 off00 _ f
theorem write_out (f w : (cc0_stg5_0 : Ref sig .tc).ty.Contents (Elt F)) :
    ((Memref.whole cc0_stg5_0 : Memref sig .tc .vmem S1x1024x1024 .f32).access (Rect.unit (s := S1x1024x1024) ![0, 0, 0] S1x1024x1024.size inb_S1x1024x1024_S1x1024x1024_0_0_0)).write (Elt F) f w Finset.univ = w :=
  Memref.write_access_unit_zero_univ (Elt F) cc0_stg5_0 off000 _ f w

/-- The first hop starts; the queries are made. -/
theorem part2 (c : Dev nD) (w24 : BitVec 32) (q : S1024x1024.Idx → Elt F .bf16)
    (Q : (Σ' (_ : BitVec 32) (_ : IVec S1024x1 32) (_ : BitVec 32) (_ : IVec S1024x1 32) (_ : IVec S1024x1 32), BitVec 32) → sProp 𝕄) :
    iprop((records m K ∗ slotPts c 0 fullShare (kvF m c) ∗ (∃ f, slotPts (nxt c) 1024 fullShare f) ∗ ow c (O1 c)
          ∗ dutyTok ER (kcell (c, 1)) 0 false ∗ dutyTok ER (kcell (nxt c, 4)) 0 false
          ∗ full c cc0_stg0_0 (inX m c) ∗ full c cc0_stg1_0 (inWq m c) ∗ full c cc0_scratch1 q)
        ∗ ((cred (tallyAt (kcell (c, 1)) () N) ∗ ow c (O2 c) ∗ slotPts c 0 fullShare.right (kvF m c)
              ∗ full c cc0_stg0_0 (inX m c) ∗ full c cc0_stg1_0 (inWq m c) ∗ full c cc0_scratch1 (Qc m c))
            -∗ Q ⟨origin c 0#32, iota .tc S1024x1 32 [0] iota_S1024x1_d0_w32, 64#32, k0_pay5, k0_pay6, sign64⟩))
      ⊢ wpc c (k0_part2 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 c (word c) w24) Q := by
  rw [k0_part2_eq_skeleton]; unfold k0_part2_skel
  simp only [Prog.lift, Prog.bind_op, Prog.bind_ret, Prog.pure_eq_ret]
  iintro ⟨⟨#HR, Hs, Hd, HO, Ht1, Ht2, Hx, Hw, Hq⟩, Hk⟩
  ihave Hs := (halves c 0 (kvF m c)).1 $$ Hs
  icases Hs with ⟨Hsl, Hsr⟩
  iapply (send_slot m K c _ (dev3_eq c) 0 1024 0 (by norm_num) (by norm_num) inb_S4096x2048_S1024x2048_0_0 inb_S4096x2048_S1024x2048_1024_0 1 4 (by decide) (by decide) rfl rfl (O1 c) (O2 c) rfl rfl) $$ [Hsl Hd HO Ht1 Ht2]
  · isplitr; · iexact HR
    isplitl [Hsl]; · iexact Hsl
    isplitl [Hd]; · iexact Hd
    isplitl [HO]; · iexact HO
    isplitl [Ht1]; · iexact Ht1
    iexact Ht2
  iintro ⟨Hc1, HO⟩
  iapply (wp_load Variants.none (c : Thread nD τ) none Set.univ (m := Memref.whole cc0_stg0_0) (Finset.subset_univ _)) $$ Hx; iintro Hx; rw [read_x (inX m c)]
  iapply (wp_load Variants.none (c : Thread nD τ) none Set.univ (m := Memref.whole cc0_stg1_0) (Finset.subset_univ _)) $$ Hw; iintro Hw; rw [read_wq (inWq m c)]
  iapply (wp_load Variants.none (c : Thread nD τ) none Set.univ (m := qM) (Finset.subset_univ _)) $$ Hq; iintro Hq
  iapply (wp_store Variants.none (c : Thread nD τ) none Set.univ (m := qM) (r := Rect.unit (s := S1024x1024) ![0, 0] S1024x1024.size inb_S1024x1024_S1024x1024_0_0) (Mk := Finset.univ) (Finset.subset_univ _)) $$ Hq; iintro Hq
  rw [write_queries q _]
  iapply (wpc_ret c)
  iapply Hk
  isplitl [Hc1]; · iexact Hc1
  isplitl [HO]; · iexact HO
  isplitl [Hsr]; · iexact Hsr
  isplitl [Hx]; · iexact Hx
  isplitl [Hw]; · iexact Hw
  iexact Hq

theorem part3 (c : Dev nD) (v2 v45 : BitVec 32) (v46 : IVec S1024x1 32) (v64 : BitVec 32) (v48 v55 : IVec S1024x1 32) (v60 : BitVec 32)
    (Q : (Σ' (_ : IVec S1024x1 32) (_ : IVec S1x1024 32) (_ : IVec S1024x1024 32), IVec S1024x1024 32) → sProp 𝕄) :
    Q ⟨k0_pay7 v2 v46 v64 v48 v55 v60, k0_pay8 v45, k0_pay9 v2 v46 v64 v48 v55 v60, k0_pay10 v45⟩
      ⊢ wpc c (k0_part3 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 v2 v45 v46 v64 v48 v55 v60) Q := by
  rw [k0_part3_eq_skeleton]; unfold k0_part3_skel
  simp only [Prog.pure_eq_ret]
  iintro H
  iapply (wpc_ret c)
  iexact H

/-- The first chunk, and the end of the first send. -/
theorem part4 (c : Dev nD) (v6 : BitVec 32) (v73 : IVec S1024x1 32) (v101 : IVec S1x1024 32) (v106 v107 : IVec S1024x1024 32)
    (hb : k0_pay11 (F := F) v73 v101 v106 v107 = bias0 c) (b a l : S1024x1024.Idx → Elt F .f32) (Q : PUnit → sProp 𝕄) :
    iprop((records m K ∗ levAts L lv ∗ slotPts c 0 fullShare.right (kvF m c) ∗ full c cc0_scratch1 (Qc m c) ∗ full c cc0_scratch2 b
          ∗ full c cc0_scratch3 a ∗ full c cc0_scratch4 l ∗ cred (tallyAt (kcell (c, 1)) () N) ∗ ow c (O2 c) ∗ atPos ER (kcell (c, 1)) 0 ∅ 0)
        ∗ ((slotPts c 0 fullShare (kvF m c) ∗ full c cc0_scratch1 (Qc m c) ∗ full c cc0_scratch2 (bias0 c)
              ∗ full c cc0_scratch3 (acc0 m c) ∗ full c cc0_scratch4 (den0 m c) ∗ ow c (O2 c) ∗ atPos ER (kcell (c, 1)) 1 ∅ 0)
            -∗ Q ⟨⟩))
      ⊢ wpc c (k0_part4 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 v6 v73 v101 v106 v107) Q := by
  rw [k0_part4_eq_skeleton]; unfold k0_part4_skel
  simp only [Prog.lift, Prog.bind_op, Prog.bind_ret, Prog.pure_eq_ret]
  iintro ⟨⟨#HR, #Hlev, Hs, Hq, Hb, Ha, Hl, Hc1, HO, Hat1⟩, Hk⟩
  iapply (wp_load Variants.none (c : Thread nD τ) none Set.univ (m := biasM) (Finset.subset_univ _)) $$ Hb; iintro Hb
  iapply (wp_store Variants.none (c : Thread nD τ) none Set.univ (m := biasM) (r := Rect.unit (s := S1024x1024) ![0, 0] S1024x1024.size inb_S1024x1024_S1024x1024_0_0) (Mk := Finset.univ) (Finset.subset_univ _)) $$ Hb; iintro Hb
  rw [write_bias b _, hb]
  iapply (wpc_seq c)
  iapply (loop1 m c fullShare.right v6 v73 v101 v106 v107 a l)
  isplitl [Hs Hq Hb Ha Hl]
  · isplitl [Hs]; · iexact Hs
    isplitl [Hq]; · iexact Hq
    isplitl [Hb]; · iexact Hb
    isplitl [Ha]; · iexact Ha
    iexact Hl
  iintro ⟨Hs, Hq, Hb, Ha, Hl⟩
  iapply (wait_slot m K c 1 (by decide) send0 rfl 2 (by decide) (O2 c) (above_O2 c)) $$ [Hc1 HO Hat1]
  · isplitr; · iexact HR
    isplitr; · iexact Hlev
    isplitl [Hc1]; · iexact Hc1
    isplitl [HO]; · iexact HO
    iexact Hat1
  iintro ⟨HO, Hat1, Hp1⟩
  ihave Hp1 := (Entails.of_eq (show payOf m c (Fin.castSucc 1) false = slotPts c 0 fullShare.left (kvF m c) from rfl)) $$ Hp1
  ihave Hs := (halves c 0 (kvF m c)).2 $$ [Hp1 Hs]
  · isplitl [Hp1]; · iexact Hp1
    iexact Hs
  iapply (wpc_ret c)
  iapply Hk
  isplitl [Hs]; · iexact Hs
  isplitl [Hq]; · iexact Hq
  isplitl [Hb]; · iexact Hb
  isplitl [Ha]; · iexact Ha
  isplitl [Hl]; · iexact Hl
  isplitl [HO]; · iexact HO
  iexact Hat1

/-- The first hop has come, the second starts. -/
theorem part5 (c : Dev nD) (v6 : BitVec 32) (Q : (Σ' (_ : BitVec 32), IVec S1024x1 32) → sProp 𝕄) :
    iprop((records m K ∗ levAts L lv ∗ cred (tallyAt (kcell (c, 4)) () N) ∗ ow c (O2 c) ∗ atPos ER (kcell (c, 4)) 0 ∅ 0
          ∗ (∃ f, slotPts (nxt c) 2048 fullShare f) ∗ dutyTok ER (kcell (c, 2)) 0 false ∗ dutyTok ER (kcell (nxt c, 5)) 0 false)
        ∗ ((slotPts c 1024 fullShare.right (kvF m c) ∗ cred (tallyAt (kcell (c, 2)) () N) ∗ ow c (O3 c) ∗ atPos ER (kcell (c, 4)) 1 ∅ 0)
            -∗ Q ⟨origin c 1#32, k0_pay15 (word c)⟩))
      ⊢ wpc c (k0_part5 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 c (word c) v6) Q := by
  rw [k0_part5_eq_skeleton]; unfold k0_part5_skel
  simp only [Prog.lift, Prog.bind_op, Prog.bind_ret, Prog.pure_eq_ret]
  iintro ⟨⟨#HR, #Hlev, Hc4, HO, Hat4, Hd, Ht1, Ht2⟩, Hk⟩
  iapply (wait_slot m K c 4 (by decide) recv0 rfl 2 (by decide) (O2 c) (above_O2 c)) $$ [Hc4 HO Hat4]
  · isplitr; · iexact HR
    isplitr; · iexact Hlev
    isplitl [Hc4]; · iexact Hc4
    isplitl [HO]; · iexact HO
    iexact Hat4
  iintro ⟨HO, Hat4, Hp4⟩
  ihave Hp4 := (Entails.of_eq (show payOf m c (Fin.castSucc 4) false = slotPts c 1024 fullShare (kvF m c) from rfl)) $$ Hp4
  ihave Hs := (halves c 1024 (kvF m c)).1 $$ Hp4
  icases Hs with ⟨Hsl, Hsr⟩
  iapply (send_slot m K c _ (dev4_eq c) 1024 2048 1 (by norm_num) (by norm_num) inb_S4096x2048_S1024x2048_1024_0 inb_S4096x2048_S1024x2048_2048_0 2 5 (by decide) (by decide) rfl rfl (O2 c) (O3 c) rfl rfl) $$ [Hsl Hd HO Ht1 Ht2]
  · isplitr; · iexact HR
    isplitl [Hsl]; · iexact Hsl
    isplitl [Hd]; · iexact Hd
    isplitl [HO]; · iexact HO
    isplitl [Ht1]; · iexact Ht1
    iexact Ht2
  iintro ⟨Hc2, HO⟩
  iapply (wpc_ret c)
  iapply Hk
  isplitl [Hsr]; · iexact Hsr
  isplitl [Hc2]; · iexact Hc2
  isplitl [HO]; · iexact HO
  iexact Hat4

theorem part6 (c : Dev nD) (v149 : BitVec 32) (v177 : IVec S1024x1 32) (Q : (Σ' (_ : IVec S1024x1024 1), IVec S1024x1024 1) → sProp 𝕄) :
    Q ⟨k0_pay18 v149 v177, k0_pay19 v149 v177⟩ ⊢ wpc c (k0_part6 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 v149 v177) Q := by
  rw [k0_part6_eq_skeleton]; unfold k0_part6_skel
  simp only [Prog.pure_eq_ret]
  iintro H
  iapply (wpc_ret c)
  iexact H

/-- The second chunk, and the end of the second hop. -/
theorem part7 (c : Dev nD) (v6 : BitVec 32) (v222 v224 : IVec S1024x1024 1) (hb : k0_pay20 (F := F) v222 v224 = bias1 c)
    (b : S1024x1024.Idx → Elt F .f32) (Q : PUnit → sProp 𝕄) :
    iprop((records m K ∗ levAts L lv ∗ slotPts c 1024 fullShare.right (kvF m c) ∗ full c cc0_scratch1 (Qc m c) ∗ full c cc0_scratch2 b
          ∗ full c cc0_scratch3 (acc0 m c) ∗ full c cc0_scratch4 (den0 m c) ∗ cred (tallyAt (kcell (c, 2)) () N) ∗ cred (tallyAt (kcell (c, 5)) () N)
          ∗ ow c (O3 c) ∗ atPos ER (kcell (c, 2)) 0 ∅ 0 ∗ atPos ER (kcell (c, 5)) 0 ∅ 0)
        ∗ ((slotPts c 1024 fullShare (kvF m c) ∗ slotPts c 2048 fullShare (kvF m c) ∗ full c cc0_scratch1 (Qc m c) ∗ full c cc0_scratch2 (bias1 c)
              ∗ full c cc0_scratch3 (acc1 m c) ∗ full c cc0_scratch4 (den1 m c) ∗ ow c (O3 c) ∗ atPos ER (kcell (c, 2)) 1 ∅ 0 ∗ atPos ER (kcell (c, 5)) 1 ∅ 0)
            -∗ Q ⟨⟩))
      ⊢ wpc c (k0_part7 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 v6 v222 v224) Q := by
  rw [k0_part7_eq_skeleton]; unfold k0_part7_skel
  simp only [Prog.lift, Prog.bind_op, Prog.bind_ret, Prog.pure_eq_ret]
  iintro ⟨⟨#HR, #Hlev, Hs, Hq, Hb, Ha, Hl, Hc2, Hc5, HO, Hat2, Hat5⟩, Hk⟩
  iapply (wp_load Variants.none (c : Thread nD τ) none Set.univ (m := biasM) (Finset.subset_univ _)) $$ Hb; iintro Hb
  iapply (wp_store Variants.none (c : Thread nD τ) none Set.univ (m := biasM) (r := Rect.unit (s := S1024x1024) ![0, 0] S1024x1024.size inb_S1024x1024_S1024x1024_0_0) (Mk := Finset.univ) (Finset.subset_univ _)) $$ Hb; iintro Hb
  rw [write_bias b _, hb]
  iapply (wpc_seq c)
  iapply (loop2 m c fullShare.right v6 v222 v224)
  isplitl [Hs Hq Hb Ha Hl]
  · isplitl [Hs]; · iexact Hs
    isplitl [Hq]; · iexact Hq
    isplitl [Hb]; · iexact Hb
    isplitl [Ha]; · iexact Ha
    iexact Hl
  iintro ⟨Hs, Hq, Hb, Ha, Hl⟩
  iapply (wait_slot m K c 2 (by decide) send1 rfl 3 (by decide) (O3 c) (above_O3 c)) $$ [Hc2 HO Hat2]
  · isplitr; · iexact HR
    isplitr; · iexact Hlev
    isplitl [Hc2]; · iexact Hc2
    isplitl [HO]; · iexact HO
    iexact Hat2
  iintro ⟨HO, Hat2, Hp2⟩
  ihave Hp2 := (Entails.of_eq (show payOf m c (Fin.castSucc 2) false = slotPts c 1024 fullShare.left (kvF m c) from rfl)) $$ Hp2
  iapply (wait_slot m K c 5 (by decide) recv1 rfl 3 (by decide) (O3 c) (above_O3 c)) $$ [Hc5 HO Hat5]
  · isplitr; · iexact HR
    isplitr; · iexact Hlev
    isplitl [Hc5]; · iexact Hc5
    isplitl [HO]; · iexact HO
    iexact Hat5
  iintro ⟨HO, Hat5, Hp5⟩
  ihave Hp5 := (Entails.of_eq (show payOf m c (Fin.castSucc 5) false = slotPts c 2048 fullShare (kvF m c) from rfl)) $$ Hp5
  ihave Hs := (halves c 1024 (kvF m c)).2 $$ [Hp2 Hs]
  · isplitl [Hp2]; · iexact Hp2
    iexact Hs
  iapply (wpc_ret c)
  iapply Hk
  isplitl [Hs]; · iexact Hs
  isplitl [Hp5]; · iexact Hp5
  isplitl [Hq]; · iexact Hq
  isplitl [Hb]; · iexact Hb
  isplitl [Ha]; · iexact Ha
  isplitl [Hl]; · iexact Hl
  isplitl [HO]; · iexact HO
  isplitl [Hat2]; · iexact Hat2
  iexact Hat5

/-- The third hop starts. -/
theorem part8 (c : Dev nD)
    (Q : (Σ' (_ : BitVec 32) (_ : IVec S1024x1 32) (_ : IVec S1x1024 32) (_ : BitVec 32) (_ : IVec S1x1024 32) (_ : IVec S1x1024 32), BitVec 32) → sProp 𝕄) :
    iprop((records m K ∗ slotPts c 2048 fullShare (kvF m c) ∗ (∃ f, slotPts (nxt c) 3072 fullShare f) ∗ ow c (O3 c)
          ∗ dutyTok ER (kcell (c, 3)) 0 false ∗ dutyTok ER (kcell (nxt c, 6)) 0 false)
        ∗ ((slotPts c 2048 fullShare.right (kvF m c) ∗ cred (tallyAt (kcell (c, 3)) () N) ∗ ow c 0)
            -∗ Q ⟨origin c 2#32, k0_pay24 (word c), iota .tc S1x1024 32 [1] iota_S1x1024_d1_w32, 64#32, k0_pay25, k0_pay26, pos64⟩))
      ⊢ wpc c (k0_part8 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 c (word c)) Q := by
  rw [k0_part8_eq_skeleton]; unfold k0_part8_skel
  simp only [Prog.lift, Prog.bind_op, Prog.bind_ret, Prog.pure_eq_ret]
  iintro ⟨⟨#HR, Hs, Hd, HO, Ht1, Ht2⟩, Hk⟩
  ihave Hs := (halves c 2048 (kvF m c)).1 $$ Hs
  icases Hs with ⟨Hsl, Hsr⟩
  iapply (send_slot m K c _ (dev5_eq c) 2048 3072 2 (by norm_num) (by norm_num) inb_S4096x2048_S1024x2048_2048_0 inb_S4096x2048_S1024x2048_3072_0 3 6 (by decide) (by decide) rfl rfl (O3 c) (0) (zero_add _).symm rfl) $$ [Hsl Hd HO Ht1 Ht2]
  · isplitr; · iexact HR
    isplitl [Hsl]; · iexact Hsl
    isplitl [Hd]; · iexact Hd
    isplitl [HO]; · iexact HO
    isplitl [Ht1]; · iexact Ht1
    iexact Ht2
  iintro ⟨Hc3, HO⟩
  iapply (wpc_ret c)
  iapply Hk
  isplitl [Hsr]; · iexact Hsr
  isplitl [Hc3]; · iexact Hc3
  iexact HO

theorem part9 (c : Dev nD) (v253 : BitVec 32) (v281 : IVec S1024x1 32) (v282 : IVec S1x1024 32) (v64 : BitVec 32) (v284 v291 : IVec S1x1024 32) (v293 : BitVec 32)
    (hb : k0_pay27 (F := F) v253 v281 v282 v64 v284 v291 v293 = bias2 c) (b : S1024x1024.Idx → Elt F .f32)
    (Q : (Σ' (_ : BitVec 32), BitVec 32) → sProp 𝕄) :
    iprop(full c cc0_scratch2 b ∗ (full c cc0_scratch2 (bias2 c) -∗ Q ⟨0#32, 1#32⟩))
      ⊢ wpc c (k0_part9 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 v253 v281 v282 v64 v284 v291 v293) Q := by
  rw [k0_part9_eq_skeleton]; unfold k0_part9_skel
  simp only [Prog.lift, Prog.bind_op, Prog.bind_ret, Prog.pure_eq_ret]
  iintro ⟨Hb, Hk⟩
  iapply (wp_load Variants.none (c : Thread nD τ) none Set.univ (m := biasM) (Finset.subset_univ _)) $$ Hb; iintro Hb
  iapply (wp_store Variants.none (c : Thread nD τ) none Set.univ (m := biasM) (r := Rect.unit (s := S1024x1024) ![0, 0] S1024x1024.size inb_S1024x1024_S1024x1024_0_0) (Mk := Finset.univ) (Finset.subset_univ _)) $$ Hb; iintro Hb
  rw [write_bias b _, hb]
  iapply (wpc_ret c)
  iapply Hk; iexact Hb

/-- The third chunk, and the end of the third hop. -/
theorem part10 (c : Dev nD) (v6 u v : BitVec 32) (Q : (Σ' (_ : BitVec 32) (_ : IVec S1024x1 32) (_ : IVec S1024x1 1) (_ : IVec S1024x1 32), BitVec 32) → sProp 𝕄) :
    iprop((records m K ∗ levAts L lv ∗ slotPts c 2048 fullShare.right (kvF m c) ∗ full c cc0_scratch1 (Qc m c) ∗ full c cc0_scratch2 (bias2 c)
          ∗ full c cc0_scratch3 (acc1 m c) ∗ full c cc0_scratch4 (den1 m c) ∗ cred (tallyAt (kcell (c, 3)) () N) ∗ cred (tallyAt (kcell (c, 6)) () N)
          ∗ ow c 0 ∗ atPos ER (kcell (c, 3)) 0 ∅ 0 ∗ atPos ER (kcell (c, 6)) 0 ∅ 0)
        ∗ ((slotPts c 2048 fullShare (kvF m c) ∗ slotPts c 3072 fullShare (kvF m c) ∗ full c cc0_scratch1 (Qc m c) ∗ full c cc0_scratch2 (bias2 c)
              ∗ full c cc0_scratch3 (acc2 m c) ∗ full c cc0_scratch4 (den2 m c) ∗ ow c 0 ∗ atPos ER (kcell (c, 3)) 1 ∅ 0 ∗ atPos ER (kcell (c, 6)) 1 ∅ 0)
            -∗ Q ⟨origin c 3#32, k0_pay31, k0_pay32, k0_pay33, 0#32⟩))
      ⊢ wpc c (k0_part10 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 (word c) v6 u v) Q := by
  rw [k0_part10_eq_skeleton]; unfold k0_part10_skel
  simp only [Prog.lift, Prog.bind_op, Prog.bind_ret, Prog.pure_eq_ret]
  iintro ⟨⟨#HR, #Hlev, Hs, Hq, Hb, Ha, Hl, Hc3, Hc6, HO, Hat3, Hat6⟩, Hk⟩
  iapply (wpc_seq c)
  iapply (loop3 m c fullShare.right (word c) v6 u v)
  isplitl [Hs Hq Hb Ha Hl]
  · isplitl [Hs]; · iexact Hs
    isplitl [Hq]; · iexact Hq
    isplitl [Hb]; · iexact Hb
    isplitl [Ha]; · iexact Ha
    iexact Hl
  iintro ⟨Hs, Hq, Hb, Ha, Hl⟩
  iapply (wait_slot m K c 3 (by decide) send2 rfl 4 (by decide) (0) (above_zero 4)) $$ [Hc3 HO Hat3]
  · isplitr; · iexact HR
    isplitr; · iexact Hlev
    isplitl [Hc3]; · iexact Hc3
    isplitl [HO]; · iexact HO
    iexact Hat3
  iintro ⟨HO, Hat3, Hp3⟩
  ihave Hp3 := (Entails.of_eq (show payOf m c (Fin.castSucc 3) false = slotPts c 2048 fullShare.left (kvF m c) from rfl)) $$ Hp3
  iapply (wait_slot m K c 6 (by decide) recv2 rfl 4 (by decide) (0) (above_zero 4)) $$ [Hc6 HO Hat6]
  · isplitr; · iexact HR
    isplitr; · iexact Hlev
    isplitl [Hc6]; · iexact Hc6
    isplitl [HO]; · iexact HO
    iexact Hat6
  iintro ⟨HO, Hat6, Hp6⟩
  ihave Hp6 := (Entails.of_eq (show payOf m c (Fin.castSucc 6) false = slotPts c 3072 fullShare (kvF m c) from rfl)) $$ Hp6
  ihave Hs := (halves c 2048 (kvF m c)).2 $$ [Hp3 Hs]
  · isplitl [Hp3]; · iexact Hp3
    iexact Hs
  iapply (wpc_ret c)
  iapply Hk
  isplitl [Hs]; · iexact Hs
  isplitl [Hp6]; · iexact Hp6
  isplitl [Hq]; · iexact Hq
  isplitl [Hb]; · iexact Hb
  isplitl [Ha]; · iexact Ha
  isplitl [Hl]; · iexact Hl
  isplitl [HO]; · iexact HO
  isplitl [Hat3]; · iexact Hat3
  iexact Hat6

theorem part11 (c : Dev nD) (v2 v349 : BitVec 32) (v352 : IVec S1024x1 32) (v366 : IVec S1024x1 1) (v368 : IVec S1024x1 32) (v0 : BitVec 32)
    (Q : (Σ' (_ : IVec S1x1024 32) (_ : IVec S1024x1024 32) (_ : IVec S1024x1024 1), BitVec 32) → sProp 𝕄) :
    Q ⟨k0_pay35 v349, k0_pay36 v2 v349 v352 v366 v368 v0, k0_pay37 v2 v349 v352 v366 v368 v0, 0#32⟩
      ⊢ wpc c (k0_part11 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 v2 v349 v352 v366 v368 v0) Q := by
  rw [k0_part11_eq_skeleton]; unfold k0_part11_skel
  simp only [Prog.pure_eq_ret]
  iintro H
  iapply (wpc_ret c)
  iexact H

end Cert.KernelIdeal.Ring

end
-- ==== Proof.Walk.lean ====
/-
A device's whole program, from its staged blocks and what the launch gives it to its output and its
semaphores at zero.
-/
module

public import proofs.«01_k».proof.Proof.Hops

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : Dev nD × Fin 7 → ℕ)

/-- What a device is left with: its scratch buffers at some contents and its semaphores at zero. -/
def done (c : Dev nD) : sProp 𝕄 :=
  iprop(((∃ f, full c cc0_scratch0 f) ∗ (∃ f, full c cc0_scratch1 f) ∗ (∃ f, full c cc0_scratch2 f) ∗ (∃ f, full c cc0_scratch3 f) ∗ (∃ f, full c cc0_scratch4 f))
    ∗ bigSep Finset.univ fun k : Fin 7 => semVal (kcell (c, k)) 0)

/-- A cell whose round is over closes at zero. -/
theorem close_cell (c : Dev nD) (k : Fin 7) :
    iprop(records m K ∗ atPos ER (kcell (c, k)) 1 ∅ 0) ⊢ (|={Set.univ}=> semVal (kcell (c, k)) 0 : sProp 𝕄) := by
  iintro ⟨#HR, Hat⟩
  imod (Rounds.cell_close ER (rd m) (Set.mem_univ (K (c, k))) (fun h => h) (R := 0 + 1) (duties_later m (kcell (c, k)))) $$ [Hat] with Hz
  · isplitr; · iapply (inv_of m K (c, k)); iexact HR
    iexact Hat
  imodintro; iexact Hz

/-- The last chunk, the division and what the projection takes. -/
theorem part12 (c : Dev nD) (f0 : Buf (Elt F) ((c : Thread nD τ).loc cc0_scratch0)) (q : S1024x1024.Idx → Elt F .bf16) (b a l : S1024x1024.Idx → Elt F .f32)
    (o : (cc0_stg5_0 : Ref sig .tc).ty.Contents (Elt F)) (Q : FVec F S1024x1024 .f32 → sProp 𝕄) :
    iprop((ghost m K c ∗ credits c ∗ levAts L lv ∗ ow c (O₀ c)
          ∗ full c cc0_stg0_0 (inX m c) ∗ full c cc0_stg1_0 (inWq m c) ∗ full c cc0_stg2_0 (inK m c) ∗ full c cc0_stg3_0 (inV m c) ∗ full c cc0_stg4_0 (inWo m c)
          ∗ full c cc0_stg5_0 o ∗ full c cc0_scratch0 f0 ∗ full c cc0_scratch1 q ∗ full c cc0_scratch2 b ∗ full c cc0_scratch3 a ∗ full c cc0_scratch4 l)
        ∗ ((done c ∗ ow c 0 ∗ full c cc0_stg0_0 (inX m c) ∗ full c cc0_stg1_0 (inWq m c) ∗ full c cc0_stg2_0 (inK m c) ∗ full c cc0_stg3_0 (inV m c)
              ∗ full c cc0_stg4_0 (inWo m c) ∗ full c cc0_stg5_0 o) -∗ Q (k0_pay43 (ctx m c) (inWo m c))))
      ⊢ wpc c (k0_part12 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6) Q := by
  rw [k0_part12_eq_skeleton]; unfold k0_part12_skel ghost credits payToks
  simp only [Prog.lift, Prog.bind_op, Prog.bind_ret, Prog.pure_eq_ret]
  rw [bigSep_fin7]
  iintro ⟨⟨⟨#HR, ⟨Hat0, Hat1, Hat2, Hat3, Hat4, Hat5, Hat6⟩, HtN, HtP, Ht1, Ht2, Ht3, Ht4, Ht5, Ht6⟩, ⟨Hc0, Hc4, Hc5, Hc6⟩, #Hlev, HO, Hx, Hwq, HK, HV, Hwo, Ho, Hkv, Hq, Hb, Ha, Hl⟩, Hk⟩
  iapply (wpc_seq c)
  iapply (part1 m K c f0)
  isplitl [HO Hc0 Hat0 HtN HtP HK HV Hkv]
  · isplitr; · iexact HR
    isplitr; · iexact Hlev
    isplitl [HO]; · iexact HO
    isplitl [Hc0]; · iexact Hc0
    isplitl [Hat0]; · iexact Hat0
    isplitl [HtN]; · iexact HtN
    isplitl [HtP]; · iexact HtP
    isplitl [HK]; · iexact HK
    isplitl [HV]; · iexact HV
    iexact Hkv
  iintro %w6 %w24 ⟨HO, Hat0, HK, HV, Hs0, Hbp⟩
  unfold barPay
  icases Hbp with ⟨Hd1, Hd2, Hd3⟩
  iapply (wpc_seq c)
  iapply (part2 m K c w24 q)
  isplitl [Hs0 Hd1 HO Ht1 Ht4 Hx Hwq Hq]
  · isplitr; · iexact HR
    isplitl [Hs0]; · iexact Hs0
    isplitl [Hd1]; · iexact Hd1
    isplitl [HO]; · iexact HO
    isplitl [Ht1]; · iexact Ht1
    isplitl [Ht4]; · iexact Ht4
    isplitl [Hx]; · iexact Hx
    isplitl [Hwq]; · iexact Hwq
    iexact Hq
  iintro ⟨Hc1, HO, Hs0, Hx, Hwq, Hq⟩
  iapply (wpc_seq c)
  iapply (part3 c)
  iapply (wpc_seq c)
  iapply (part4 m K c w6 _ _ _ _ rfl b a l)
  isplitl [Hs0 Hq Hb Ha Hl Hc1 HO Hat1]
  · isplitr; · iexact HR
    isplitr; · iexact Hlev
    isplitl [Hs0]; · iexact Hs0
    isplitl [Hq]; · iexact Hq
    isplitl [Hb]; · iexact Hb
    isplitl [Ha]; · iexact Ha
    isplitl [Hl]; · iexact Hl
    isplitl [Hc1]; · iexact Hc1
    isplitl [HO]; · iexact HO
    iexact Hat1
  iintro ⟨Hs0, Hq, Hb, Ha, Hl, HO, Hat1⟩
  iapply (wpc_seq c)
  iapply (part5 m K c w6)
  isplitl [Hc4 HO Hat4 Hd2 Ht2 Ht5]
  · isplitr; · iexact HR
    isplitr; · iexact Hlev
    isplitl [Hc4]; · iexact Hc4
    isplitl [HO]; · iexact HO
    isplitl [Hat4]; · iexact Hat4
    isplitl [Hd2]; · iexact Hd2
    isplitl [Ht2]; · iexact Ht2
    iexact Ht5
  iintro ⟨Hs1, Hc2, HO, Hat4⟩
  iapply (wpc_seq c)
  iapply (part6 c)
  iapply (wpc_seq c)
  iapply (part7 m K c w6 _ _ rfl (bias0 c))
  isplitl [Hs1 Hq Hb Ha Hl Hc2 Hc5 HO Hat2 Hat5]
  · isplitr; · iexact HR
    isplitr; · iexact Hlev
    isplitl [Hs1]; · iexact Hs1
    isplitl [Hq]; · iexact Hq
    isplitl [Hb]; · iexact Hb
    isplitl [Ha]; · iexact Ha
    isplitl [Hl]; · iexact Hl
    isplitl [Hc2]; · iexact Hc2
    isplitl [Hc5]; · iexact Hc5
    isplitl [HO]; · iexact HO
    isplitl [Hat2]; · iexact Hat2
    iexact Hat5
  iintro ⟨Hs1, Hs2, Hq, Hb, Ha, Hl, HO, Hat2, Hat5⟩
  iapply (wpc_seq c)
  iapply (part8 m K c)
  isplitl [Hs2 Hd3 HO Ht3 Ht6]
  · isplitr; · iexact HR
    isplitl [Hs2]; · iexact Hs2
    isplitl [Hd3]; · iexact Hd3
    isplitl [HO]; · iexact HO
    isplitl [Ht3]; · iexact Ht3
    iexact Ht6
  iintro ⟨Hs2, Hc3, HO⟩
  iapply (wpc_seq c)
  iapply (part9 c _ _ _ _ _ _ _ rfl (bias1 c))
  isplitl [Hb]
  · iexact Hb
  iintro Hb
  iapply (wpc_seq c)
  iapply (part10 m K c w6 _ _)
  isplitl [Hs2 Hq Hb Ha Hl Hc3 Hc6 HO Hat3 Hat6]
  · isplitr; · iexact HR
    isplitr; · iexact Hlev
    isplitl [Hs2]; · iexact Hs2
    isplitl [Hq]; · iexact Hq
    isplitl [Hb]; · iexact Hb
    isplitl [Ha]; · iexact Ha
    isplitl [Hl]; · iexact Hl
    isplitl [Hc3]; · iexact Hc3
    isplitl [Hc6]; · iexact Hc6
    isplitl [HO]; · iexact HO
    isplitl [Hat3]; · iexact Hat3
    iexact Hat6
  iintro ⟨Hs2, Hs3, Hq, Hb, Ha, Hl, HO, Hat3, Hat6⟩
  iapply (wpc_seq c)
  iapply (part11 c)
  iapply (wp_load Variants.none (c : Thread nD τ) none Set.univ (m := biasM) (Finset.subset_univ _)) $$ Hb; iintro Hb
  iapply (wp_store Variants.none (c : Thread nD τ) none Set.univ (m := biasM) (r := Rect.unit (s := S1024x1024) ![0, 0] S1024x1024.size inb_S1024x1024_S1024x1024_0_0) (Mk := Finset.univ) (Finset.subset_univ _)) $$ Hb; iintro Hb
  rw [write_bias (bias2 c) _]
  ihave Hs3 := (halves c 3072 (kvF m c)).1 $$ Hs3
  icases Hs3 with ⟨Hs3l, Hs3r⟩
  iapply (wpc_seq c)
  iapply (loop4 m c fullShare.right)
  isplitl [Hs3r Hq Hb Ha Hl]
  · isplitl [Hs3r]; · iexact Hs3r
    isplitl [Hq]; · iexact Hq
    isplitl [Hb]; · iexact Hb
    isplitl [Ha]; · iexact Ha
    iexact Hl
  iintro ⟨Hs3r, Hq, Hb, Ha, Hl⟩
  iapply (wpc_seq c)
  iapply (loop5 m c)
  isplitl [Hq Ha Hl]
  · isplitl [Hq]; · iexact Hq
    isplitl [Ha]; · iexact Ha
    iexact Hl
  iintro ⟨Hq, Ha, Hl⟩
  iapply (wp_load Variants.none (c : Thread nD τ) none Set.univ (m := qM) (Finset.subset_univ _)) $$ Hq; iintro Hq; rw [read_ctx (ctx m c)]
  iapply (wp_load Variants.none (c : Thread nD τ) none Set.univ (m := Memref.whole cc0_stg4_0) (Finset.subset_univ _)) $$ Hwo; iintro Hwo; rw [read_wo (inWo m c)]
  iapply (wp_load Variants.none (c : Thread nD τ) none Set.univ (m := Memref.whole cc0_stg5_0) (Finset.subset_univ _)) $$ Ho; iintro Ho
  ihave Hs3 := (halves c 3072 (kvF m c)).2 $$ [Hs3l Hs3r]
  · isplitl [Hs3l]; · iexact Hs3l
    iexact Hs3r
  ihave Hkv := (split_slots c (kvF m c)).2 $$ [Hs0 Hs1 Hs2 Hs3]
  · isplitl [Hs0]; · iexact Hs0
    isplitl [Hs1]; · iexact Hs1
    isplitl [Hs2]; · iexact Hs2
    iexact Hs3
  imod (close_cell m K c 0) $$ [Hat0] with Hz0
  · isplitr; · iexact HR
    iexact Hat0
  imod (close_cell m K c 1) $$ [Hat1] with Hz1
  · isplitr; · iexact HR
    iexact Hat1
  imod (close_cell m K c 2) $$ [Hat2] with Hz2
  · isplitr; · iexact HR
    iexact Hat2
  imod (close_cell m K c 3) $$ [Hat3] with Hz3
  · isplitr; · iexact HR
    iexact Hat3
  imod (close_cell m K c 4) $$ [Hat4] with Hz4
  · isplitr; · iexact HR
    iexact Hat4
  imod (close_cell m K c 5) $$ [Hat5] with Hz5
  · isplitr; · iexact HR
    iexact Hat5
  imod (close_cell m K c 6) $$ [Hat6] with Hz6
  · isplitr; · iexact HR
    iexact Hat6
  iapply (wpc_ret c)
  iapply Hk
  unfold done; rw [bigSep_fin7]
  isplitl [Hkv Hq Hb Ha Hl Hz0 Hz1 Hz2 Hz3 Hz4 Hz5 Hz6]
  · isplitl [Hkv Hq Hb Ha Hl]
    · isplitl [Hkv]; · iexists _; iexact Hkv
      isplitl [Hq]; · iexists _; iexact Hq
      isplitl [Hb]; · iexists _; iexact Hb
      isplitl [Ha]; · iexists _; iexact Ha
      iexists _; iexact Hl
    isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    iexact Hz6
  isplitl [HO]; · iexact HO
  isplitl [Hx]; · iexact Hx
  isplitl [Hwq]; · iexact Hwq
  isplitl [HK]; · iexact HK
  isplitl [HV]; · iexact HV
  isplitl [Hwo]; · iexact Hwo
  iexact Ho

/-- The whole program. -/
theorem walk (c : Dev nD) (f0 : Buf (Elt F) ((c : Thread nD τ).loc cc0_scratch0)) (q : S1024x1024.Idx → Elt F .bf16) (b a l : S1024x1024.Idx → Elt F .f32)
    (o : (cc0_stg5_0 : Ref sig .tc).ty.Contents (Elt F)) (Q : PUnit → sProp 𝕄) :
    iprop((ghost m K c ∗ credits c ∗ levAts L lv ∗ ow c (O₀ c)
          ∗ full c cc0_stg0_0 (inX m c) ∗ full c cc0_stg1_0 (inWq m c) ∗ full c cc0_stg2_0 (inK m c) ∗ full c cc0_stg3_0 (inV m c) ∗ full c cc0_stg4_0 (inWo m c)
          ∗ full c cc0_stg5_0 o ∗ full c cc0_scratch0 f0 ∗ full c cc0_scratch1 q ∗ full c cc0_scratch2 b ∗ full c cc0_scratch3 a ∗ full c cc0_scratch4 l)
        ∗ ((done c ∗ ow c 0 ∗ full c cc0_stg0_0 (inX m c) ∗ full c cc0_stg1_0 (inWq m c) ∗ full c cc0_stg2_0 (inK m c) ∗ full c cc0_stg3_0 (inV m c)
              ∗ full c cc0_stg4_0 (inWo m c) ∗ full c cc0_stg5_0 (outC m c)) -∗ Q ⟨⟩))
      ⊢ wpc c (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6) Q := by
  rw [cc0_body_eq_skeleton]; unfold cc0_body_skel
  simp only [Prog.lift, Prog.bind_op, Prog.bind_ret, Prog.pure_eq_ret]
  iintro ⟨H, Hk⟩
  iapply (wpc_seq c)
  iapply (part12 m K c f0 q b a l o)
  isplitl [H]; · iexact H
  iintro ⟨Hdone, HO, Hx, Hwq, HK, HV, Hwo, Ho⟩
  iapply (wp_store Variants.none (c : Thread nD τ) none Set.univ (m := Memref.whole cc0_stg5_0) (r := Rect.unit (s := S1x1024x1024) ![0, 0, 0] S1x1024x1024.size inb_S1x1024x1024_S1x1024x1024_0_0_0) (Mk := Finset.univ) (Finset.subset_univ _)) $$ Ho; iintro Ho
  rw [write_out o _]
  iapply (wpc_ret c)
  iapply Hk
  isplitl [Hdone]; · iexact Hdone
  isplitl [HO]; · iexact HO
  isplitl [Hx]; · iexact Hx
  isplitl [Hwq]; · iexact Hwq
  isplitl [HK]; · iexact HK
  isplitl [HV]; · iexact HV
  isplitl [Hwo]; · iexact Hwo
  iexact Ho

end Cert.KernelIdeal.Ring

end
-- ==== Proof.Launch.lean ====
/-
The launch on the four devices: what each starts with, how the ring's counters and tokens are dealt
out, and the run of the whole program to its end, with the contents every array then has.
-/
module

public import proofs.«01_k».proof.Proof.Walk
public import Idealize.ShloMosaic.Lib.Pipeline.CollectiveSegs

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The pipeline's data -/

/-- Before its program a device holds its start and its scratch buffers at any contents. -/
def before (c : Dev nD) : sProp 𝕄 :=
  iprop(start m c ∗ (∃ f, full c cc0_scratch0 f) ∗ (∃ f, full c cc0_scratch1 f) ∗ (∃ f, full c cc0_scratch2 f) ∗ (∃ f, full c cc0_scratch3 f) ∗ (∃ f, full c cc0_scratch4 f))

def dats (_ : Fin 1) (c : Dev nD) : Dat τ (Elt F) Unit ℕ UU ℕ cfg0 c where
  A w := m ((cfg0.win w).arr.view.loc (c : Thread nD τ))
  after w _ := match w with
    | ⟨0, _⟩ => inX m c
    | ⟨1, _⟩ => inWq m c
    | ⟨2, _⟩ => inK m c
    | ⟨3, _⟩ => inV m c
    | ⟨4, _⟩ => inWo m c
    | ⟨5, _⟩ => outC m c
  Φ t := match t with
    | ⟨0, _⟩ => before m c
    | ⟨_ + 1, _⟩ => done c
  q _ := fullShare
  owed t := match t with
    | ⟨0, _⟩ => O₀ c
    | ⟨_ + 1, _⟩ => 0

theorem fetched (t : Fin cfg0.N) (w : Fin 6) (hw : w ≠ 5) : (cfg0.win w).fetch t = true := by
  rw [fin_N0 t]; revert w; decide

/-- A whole buffer at the contents `X`. -/
def stg (c : Dev nD) (b : Ref sig .tc) (X : b.ty.Contents (Elt F)) : sProp 𝕄 :=
  iprop(∃ f : Buf (Elt F) ((c : Thread nD τ).loc b), ⌜f = X⌝ ∗ full c b f)

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns stg; simp only [Memref.view_whole, View.read_whole, View.set_whole]

def bodyPre (c : Dev nD) : sProp 𝕄 :=
  iprop(before m c ∗ (dats m 0 c).owesAt () t0_0.castSucc
    ∗ (∃ d, stg c cc0_stg0_0 ((dats m 0 c).before (0 : Fin 6) t0_0 d))
    ∗ (∃ d, stg c cc0_stg1_0 ((dats m 0 c).before (1 : Fin 6) t0_0 d))
    ∗ (∃ d, stg c cc0_stg2_0 ((dats m 0 c).before (2 : Fin 6) t0_0 d))
    ∗ (∃ d, stg c cc0_stg3_0 ((dats m 0 c).before (3 : Fin 6) t0_0 d))
    ∗ (∃ d, stg c cc0_stg4_0 ((dats m 0 c).before (4 : Fin 6) t0_0 d))
    ∗ (∃ d, stg c cc0_stg5_0 ((dats m 0 c).before (5 : Fin 6) t0_0 d)))

def bodyPost (c : Dev nD) : sProp 𝕄 :=
  iprop(done c ∗ (dats m 0 c).owesAt () t0_0.succ
    ∗ stg c cc0_stg0_0 (inX m c) ∗ stg c cc0_stg1_0 (inWq m c) ∗ stg c cc0_stg2_0 (inK m c) ∗ stg c cc0_stg3_0 (inV m c) ∗ stg c cc0_stg4_0 (inWo m c)
    ∗ stg c cc0_stg5_0 (outC m c))

set_option maxRecDepth 4000 in
/-- The library's obligation for the body, on device `c`. -/
theorem body_obligation (c : Dev nD) : BodyObligation (dats (F := F) m 0 c) (defs₀ (F := F)) Variants.none () Set.univ := fun t => by
  rw [fin_N0 t]
  rw [show ∀ Φ : Fin cfg0.W → sProp 𝕄, bigSep Finset.univ Φ = _ from fun Φ => bigSep_W0 Φ, show ∀ Φ : Fin cfg0.W → sProp 𝕄, bigSep Finset.univ Φ = _ from fun Φ => bigSep_W0 Φ]
  simp only [owns_whole_eq]
  show bodyPre m c ⊢ wpc c (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6) (fun _ => bodyPost m c)
  unfold bodyPre before start stg
  iintro ⟨⟨⟨⟨%K, Hg⟩, Hcr, Hlev⟩, ⟨%f0, Hs0⟩, ⟨%f1, Hs1⟩, ⟨%f2, Hs2⟩, ⟨%f3, Hs3⟩, ⟨%f4, Hs4⟩⟩, Ho,
    ⟨%d0, %g0, %h0, H0⟩, ⟨%d1, %g1, %h1, H1⟩, ⟨%d2, %g2, %h2, H2⟩, ⟨%d3, %g3, %h3, H3⟩, ⟨%d4, %g4, %h4, H4⟩, ⟨%d5, %g5, %h5, H5⟩⟩
  have e0 : g0 = inX m c := by rw [h0]; unfold Dat.before; rw [if_pos (fetched t0_0 0 (by decide))]; rfl
  have e1 : g1 = inWq m c := by rw [h1]; unfold Dat.before; rw [if_pos (fetched t0_0 1 (by decide))]; rfl
  have e2 : g2 = inK m c := by rw [h2]; unfold Dat.before; rw [if_pos (fetched t0_0 2 (by decide))]; rfl
  have e3 : g3 = inV m c := by rw [h3]; unfold Dat.before; rw [if_pos (fetched t0_0 3 (by decide))]; rfl
  have e4 : g4 = inWo m c := by rw [h4]; unfold Dat.before; rw [if_pos (fetched t0_0 4 (by decide))]; rfl
  subst e0 e1 e2 e3 e4
  unfold Dat.owesAt Pipeline.owesWithin
  rw [show (dats m 0 c).owed t0_0.castSucc = O₀ c from rfl]
  icases Ho with ⟨%W, %hW, HO⟩
  iapply (walk m K c f0 f1 f2 f3 f4 g5 fun _ => bodyPost m c)
  isplitr []
  · isplitl [Hg]; · iexact Hg
    isplitl [Hcr]; · iexact Hcr
    isplitl [Hlev]; · iexact Hlev
    isplitl [HO]; · unfold ow; iexists W; iexact HO
    isplitl [H0]; · iexact H0
    isplitl [H1]; · iexact H1
    isplitl [H2]; · iexact H2
    isplitl [H3]; · iexact H3
    isplitl [H4]; · iexact H4
    isplitl [H5]; · iexact H5
    isplitl [Hs0]; · iexact Hs0
    isplitl [Hs1]; · iexact Hs1
    isplitl [Hs2]; · iexact Hs2
    isplitl [Hs3]; · iexact Hs3
    iexact Hs4
  iintro ⟨Hd, HO, H0, H1, H2, H3, H4, H5⟩
  unfold bodyPost Dat.owesAt Pipeline.owesWithin ow stg
  rw [show (dats m 0 c).owed t0_0.succ = 0 from rfl]
  isplitl [Hd]; · iexact Hd
  isplitl [HO]
  · icases HO with ⟨%W', HO⟩
    iexists W'; isplitr; · ipureintro; exact fun _ _ => Or.inl trivial
    iexact HO
  isplitl [H0]; · iexists _; isplitr; · (ipureintro; rfl)
                  iexact H0
  isplitl [H1]; · iexists _; isplitr; · (ipureintro; rfl)
                  iexact H1
  isplitl [H2]; · iexists _; isplitr; · (ipureintro; rfl)
                  iexact H2
  isplitl [H3]; · iexists _; isplitr; · (ipureintro; rfl)
                  iexact H3
  isplitl [H4]; · iexists _; isplitr; · (ipureintro; rfl)
                  iexact H4
  iexists _; isplitr; · (ipureintro; rfl)
  iexact H5

/-! ## Dealing out the ring's counters and tokens -/

theorem ownSemFacts : Pipeline.OwnSemFacts cfg0.spec osem := by decide

theorem share_eq (c : Dev nD) (w : Fin cfg0.W) : (dats m 0 c).share w = fullShare := by unfold Dat.share; split <;> rfl

def ringCells : Finset (GSem nD τ sig) := Finset.univ.map ⟨kcell, kcell_inj⟩

/-- The tokens of a device's own cells: two for its barrier, one for each of its sends and receives. -/
abbrev tokIx : Fin 8 → Fin 7 × Bool := fun
  | 0 => (0, false) | 1 => (0, true) | 2 => (1, false) | 3 => (2, false) | 4 => (3, false) | 5 => (4, false) | 6 => (5, false) | 7 => (6, false)
theorem tokIx_injective : Function.Injective tokIx := by decide
abbrev tokOf (cj : Dev nD × Fin 8) : GSem nD τ sig × ℕ × Bool := (kcell (cj.1, (tokIx cj.2).1), 0, (tokIx cj.2).2)
theorem tokOf_injective : Function.Injective tokOf := by
  rintro ⟨c, j⟩ ⟨c', j'⟩ h
  have h1 := kcell_inj (congrArg Prod.fst h)
  have h2 : (tokIx j).2 = (tokIx j').2 := congrArg (fun x => x.2.2) h
  have h3 : c = c' := congrArg Prod.fst h1
  have h4 : (tokIx j).1 = (tokIx j').1 := congrArg Prod.snd h1
  have h5 : j = j' := by
    exact tokIx_injective (Prod.ext h4 h2)
  rw [h3, h5]
def ringToks : Finset (GSem nD τ sig × ℕ × Bool) := Finset.univ.map ⟨tokOf, tokOf_injective⟩

def u₀ : UU := (initOf (Pipeline.cells cfgs cellOf_inj) (Pipeline.launchToks cfgs cellOf_inj), initOf ringCells ringToks)

/-- The duty tokens of device `c`'s own cells. -/
def toks (c : Dev nD) : sProp 𝕄 :=
  iprop(dutyTok ER (kcell (c, 0)) 0 false ∗ dutyTok ER (kcell (c, 0)) 0 true
    ∗ dutyTok ER (kcell (c, 1)) 0 false ∗ dutyTok ER (kcell (c, 2)) 0 false ∗ dutyTok ER (kcell (c, 3)) 0 false
    ∗ dutyTok ER (kcell (c, 4)) 0 false ∗ dutyTok ER (kcell (c, 5)) 0 false ∗ dutyTok ER (kcell (c, 6)) 0 false)

/-- What the launch element deals device `c`, -/
def G (c : Dev nD) : sProp 𝕄 :=
  iprop((bigSep Finset.univ fun k : Fin 7 => roundState ER (rd m) (kcell (c, k)) 0)
    ∗ (bigSep Finset.univ fun k : Fin 7 => iprop(atPos ER (kcell (c, k)) 0 ∅ 0 ∗ reached ER (kcell (c, k)) 0)) ∗ toks c)

/-- and what the global step makes of it. -/
def G' (c : Dev nD) : sProp 𝕄 := iprop(∃ K, ghost m K c)

theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 7 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_fin8]; rfl
  iintro HX
  imod (Rounds.fund ER (rd m) ringCells ringToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = iprop(semVal (kcell (c, 1)) 0 ∗ semVal (kcell (c, 2)) 0 ∗ semVal (kcell (c, 3)) 0 ∗ semVal (kcell (c, 4)) 0 ∗ semVal (kcell (c, 5)) 0 ∗ semVal (kcell (c, 6)) 0) := by
  rw [Pipeline.ownSems0_eq_of_list c osem [0, 1, 2, 3, 4, 5] (by decide) (by decide)]; rfl
/-- The barrier semaphore is the launch's one unscoped semaphore. -/
theorem unscopedSems0_eq (c : Dev nD) : (unscopedSems0 c : sProp 𝕄) = semVal (kcell (c, 0)) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊣⊢ (bigSep Finset.univ fun k : Fin 7 => semVal (kcell (c, k)) 0 : sProp 𝕄) := by
  rw [ownSems0_eq, unscopedSems0_eq, bigSep_fin7]
  exact ⟨sep_symm, sep_symm⟩

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c).1 $$ [Hos Hus]
  · isplitl [Hos] <;> iassumption
  imod (show iprop((bigSep Finset.univ fun k : Fin 7 => semVal (kcell (c, k)) 0) ∗ bigSep Finset.univ fun k : Fin 7 => roundState ER (rd m) (kcell (c, k)) 0)
      ⊢ (|={Set.univ}=> bigSep Finset.univ fun k => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens dealt around the ring: a device pays one unit at each neighbour's barrier, its own sends, and the
    receives of the next. -/
theorem toks_around : (bigSep Finset.univ fun c : Dev nD => (toks c : sProp 𝕄)) ⊢ bigSep Finset.univ fun c : Dev nD => payToks c := by
  unfold toks payToks
  simp only [bigSep_sep']
  rw [bigSep_univ_equiv ring (fun c : Dev nD => (dutyTok ER (kcell (c, 0)) 0 false : sProp 𝕄)),
    bigSep_univ_equiv ring.symm (fun c : Dev nD => (dutyTok ER (kcell (c, 0)) 0 true : sProp 𝕄)),
    bigSep_univ_equiv ring (fun c : Dev nD => (dutyTok ER (kcell (c, 4)) 0 false : sProp 𝕄)),
    bigSep_univ_equiv ring (fun c : Dev nD => (dutyTok ER (kcell (c, 5)) 0 false : sProp 𝕄)),
    bigSep_univ_equiv ring (fun c : Dev nD => (dutyTok ER (kcell (c, 6)) 0 false : sProp 𝕄))]
  exact BI.Entails.refl _

theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Fin 7 → ℕ) (c : Dev nD) :
    iprop(records m K ∗ (bigSep Finset.univ fun k : Fin 7 => atPos ER (kcell (c, k)) 0 ∅ 0) ∗ payToks c) ⊢ G' m c := by
  unfold G' ghost
  iintro H
  iexists K; iexact H

theorem regroup :
    (bigSep Finset.univ fun c : Dev nD => iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 7 => iprop(∃ κ : ℕ, cellInv ER (rd m) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (rd m) κ (kcell ck) : sProp 𝕄))) $$ HI
  icases HK with ⟨%K, #HI⟩
  ihave Htk := (toks_around (F := F)) $$ Htok
  iapply (bigSep_with (R := records m K) fun c _ => ghost_intro m K c)
  isplitr
  · unfold records; isplitl; · iexact HI
    iexact HR
  · rw [bigSep_sep']
    isplitl [Hat]; · iexact Hat
    iexact Htk

/-- The global step: the semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit at launch -/

theorem tally_cell (a b : Dev nD) (k k' : Fin 7) (n : ℕ) :
    (tallyAt (kcell (a, k)) () n : CellTallies nD τ sig Unit) (kcell (b, k')) () = if a = b ∧ k = k' then n else 0 := by
  rw [tallyAt_apply]
  by_cases h : a = b ∧ k = k'
  · rw [if_pos h, if_pos ⟨by rw [h.1, h.2], rfl⟩]
  · rw [if_neg h, if_neg fun h' => h ?_]
    have := kcell_inj h'.1.symm
    exact ⟨congrArg Prod.fst this, congrArg Prod.snd this⟩

/-- What device `d` owes cell `k` of device `c`: a barrier unit to either neighbour, the filled slots to the next. -/
theorem owed_cell (d c : Dev nD) (k : Fin 7) : O₀ d (kcell (c, k)) ()
    = ((((if nxt d = c ∧ 6 = k then N else 0) + (if nxt d = c ∧ 5 = k then N else 0)) + (if nxt d = c ∧ 4 = k then N else 0))
        + (if nxt d = c ∧ 0 = k then 1 else 0)) + (if prv d = c ∧ 0 = k then 1 else 0) := by
  unfold O₀ Ob O1 O2 O3
  simp only [Pi.add_apply, Finsupp.add_apply, tally_cell]

theorem nxt_iff (d c : Dev nD) : nxt d = c ↔ d = prv c := by revert d c; decide
theorem prv_iff (d c : Dev nD) : prv d = c ↔ d = nxt c := by revert d c; decide

theorem launch_cell (c : Dev nD) (k : Fin 7) (n : ℕ) (h : (Finset.univ.sum fun d : Dev nD => O₀ d (kcell (c, k)) ()) = n) :
    tallyOn (kcell (c, k)) (launchCredit (Pipeline.owing O₀) 0 (kcell (c, k))) = (tallyAt (kcell (c, k)) () n : CellTallies nD τ sig Unit) := by
  unfold tallyAt; refine congrArg _ (Finsupp.ext fun u => ?_); cases u
  rw [Pipeline.launchCredit_owing, Finsupp.single_eq_same]; exact h

theorem owed_bar (c : Dev nD) : (Finset.univ.sum fun d : Dev nD => O₀ d (kcell (c, 0)) ()) = 2 := by
  rw [Finset.sum_congr rfl fun d _ => owed_cell d c 0]
  have h (d : Dev nD) : ((((if nxt d = c ∧ (6 : Fin 7) = 0 then N else 0) + (if nxt d = c ∧ (5 : Fin 7) = 0 then N else 0)) + (if nxt d = c ∧ (4 : Fin 7) = 0 then N else 0))
        + (if nxt d = c ∧ (0 : Fin 7) = 0 then 1 else 0)) + (if prv d = c ∧ (0 : Fin 7) = 0 then 1 else 0)
      = (if d = prv c then 1 else 0) + (if d = nxt c then 1 else 0) := by
    simp only [nxt_iff, prv_iff, and_true, show ((6 : Fin 7) = 0) = False from eq_false (by decide), show ((5 : Fin 7) = 0) = False from eq_false (by decide),
      show ((4 : Fin 7) = 0) = False from eq_false (by decide), and_false, if_false, Nat.zero_add]
  rw [Finset.sum_congr rfl fun d _ => h d, Finset.sum_add_distrib, Finset.sum_ite_eq' Finset.univ (prv c) fun _ => 1,
    Finset.sum_ite_eq' Finset.univ (nxt c) fun _ => 1, if_pos (Finset.mem_univ _), if_pos (Finset.mem_univ _)]

theorem owed_recv (c : Dev nD) (k : Fin 7) (hk : k = 4 ∨ k = 5 ∨ k = 6) : (Finset.univ.sum fun d : Dev nD => O₀ d (kcell (c, k)) ()) = N := by
  rw [Finset.sum_congr rfl fun d _ => owed_cell d c k]
  have h (d : Dev nD) : ((((if nxt d = c ∧ 6 = k then N else 0) + (if nxt d = c ∧ 5 = k then N else 0)) + (if nxt d = c ∧ 4 = k then N else 0))
        + (if nxt d = c ∧ 0 = k then 1 else 0)) + (if prv d = c ∧ 0 = k then 1 else 0)
      = (if d = prv c then N else 0) := by
    simp only [nxt_iff]
    rcases hk with rfl | rfl | rfl <;> by_cases hd : d = prv c <;> simp [hd]
  rw [Finset.sum_congr rfl fun d _ => h d, Finset.sum_ite_eq' Finset.univ (prv c) fun _ => N, if_pos (Finset.mem_univ _)]

theorem creds (c : Dev nD) : (Pipeline.launchCred O₀ c : sProp 𝕄) ⊢ credits c := by
  unfold Pipeline.launchCred credits
  rw [bigSep_univ_at _ (csem 0), launch_cell c 0 2 (owed_bar c)]
  refine sep_mono_right ?_
  rw [← launch_cell c 4 N (owed_recv c 4 (Or.inl rfl)), ← launch_cell c 5 N (owed_recv c 5 (Or.inr (Or.inl rfl))), ← launch_cell c 6 N (owed_recv c 6 (Or.inr (Or.inr rfl)))]
  refine (BI.bigSep_subset (t := {csem 4, csem 5, csem 6}) (by decide)).trans ?_
  exact Entails.of_eq (bigSep_eq_bigSepL_of_eq [csem 4, csem 5, csem 6] (by decide) (by decide) _)

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl, scopedRest0_eq]
  unfold before
  iintro ⟨Hs, -, Hr⟩
  isplitl [Hs]; · iexact Hs
  iexact Hr

theorem leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = done c from rfl, scopedRest0_eq]
  unfold done
  iintro ⟨Hr, Hz⟩
  ihave Hz := (sems0_eq (F := F) c).2 $$ Hz
  icases Hz with ⟨Ho, Hu⟩
  isplitl [Hu]; · iexact Hu
  isplitl [Ho]; · iexact Ho
  iexact Hr

theorem mayWait_stage (c : Dev nD) (q : DmaSem sig) (hq : lvOf (kind (.dma q)) = 0) (O : CellTallies nD τ sig Unit) (hO : O = O₀ c ∨ O = 0) :
    (levAts L lv : sProp 𝕄) ⊢ MayWait (c : Thread nD τ) (.dma q) () O :=
  mayWait c (.dma q) 0 (le_of_eq hq) O (by rcases hO with rfl | rfl; exacts [above_O₀ c, above_zero 0])

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

set_option maxRecDepth 8000 in
/-- From any memory with zero counters, for any values of the floats: every weakly fair execution ends, and at the end
    every array of a window holds the pipeline's contents of it and every counter is zero. -/
theorem run_main : θ_run defs (onTc (τ := τ) (main (F := F))) ⟨m, fun _ => 0, ρ⟩
    (fun r => (∀ c : Dev nD, ∀ w : Fin cfg0.W, r.2.mem ((cfg0.win w).arr.view.loc (c : Thread nD τ)) = (dats m 0 c).arrAt w cfg0.N) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ Variants.none m ρ main
    (hmain := fun _ => rfl)
    (hbody := fun c => (body_obligation m c).loose) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Ring

end
-- ==== Proof.Frames.lean ====
/-
What the run of the idealized kernel's text leaves of its arguments, for any values of the floats, and the
same of the kernel as printed: the two programs are one text, read with the mask's constant as its literal.
-/
module

public import proofs.«01_k».proof.Proof.Launch
public import proofs.«01_k».proof.Proof.Gen.Kernel

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

section Run
variable [Named F]
variable (m : (ℓ : Loc nD τ sig) → Buf (Elt F) ℓ) (ρ : Dev nD → PrngReg)

/-- The result array of device `c` at the end. -/
def result (c : Dev nD) : Buf (Elt F) ((c : Thread nD τ).loc main_v1) := (dats m 0 c).arrAt (5 : Fin 6) cfg0.N

/-- Every execution ends with the result in place, the arguments unchanged and every counter at zero. -/
theorem run_all : θ_run (defs (F := F)) (onTc (τ := τ) (main (F := F))) ⟨m, fun _ => 0, ρ⟩ (fun r => (∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run (defs (F := F)) _ _).mono (fun _ h => ⟨fun c => ⟨h.1 c 5,
      (h.1 c 0).trans ((dats (F := F) m 0 c).arrAt_in (0 : Fin 6) rfl _),
      (h.1 c 1).trans ((dats (F := F) m 0 c).arrAt_in (1 : Fin 6) rfl _),
      (h.1 c 2).trans ((dats (F := F) m 0 c).arrAt_in (2 : Fin 6) rfl _),
      (h.1 c 3).trans ((dats (F := F) m 0 c).arrAt_in (3 : Fin 6) rfl _),
      (h.1 c 4).trans ((dats (F := F) m 0 c).arrAt_in (4 : Fin 6) rfl _)⟩, h.2⟩) (run_main m ρ)

end Run

/-- Every named constant read as its literal. -/
@[instance_reducible] def literal (F : FTy → Type) [FloatOps F] : Named F := ⟨fun _ _ {φ} b => Scalar.ofBits φ b⟩

attribute [local instance] literal

theorem bodies_same : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) => rfl

theorem defs_same : Cert.Kernel.defs (F := F) = Cert.KernelIdeal.defs (F := F) := by
  unfold Cert.Kernel.defs Cert.KernelIdeal.defs
  rw [bodies_same]
  rfl

theorem main_same : Cert.Kernel.main (F := F) = Cert.KernelIdeal.main (F := F) := rfl

/-- The kernel as printed: every execution ends with the arguments unchanged and every counter at zero. -/
theorem printed_run (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0) := by
  rw [defs_same, main_same]
  exact (θ_run (Cert.KernelIdeal.defs (F := F)) _ _).mono (fun _ h => ⟨fun c => (h.1 c).2, h.2⟩) (run_all m ρ)

end Cert.KernelIdeal.Ring

end
-- ==== Proof.Facts.lean ====
/-
The side conditions of the precondition, printed as a function of one device's arrays and of the whole arrays.
-/
module

public import proofs.«01_k».proof.Pre_finite_scores_KernelIdeal
public import proofs.«01_k».proof.Pre_finite_scores_ReferenceIdeal

@[expose] public section

namespace Cert.KernelIdeal.Ring

/-- The precondition's shapes on one device fit. -/
theorem preFacts : Cert.Pre_finite_scores_KernelIdeal.Facts where
  bcast_S_S1x1024x1024 := by decide
  reducesTo_S1x1024x1024_S_d0_1_2 := by decide
  h_S_ := by decide
  bcast_S_S1024x1024 := by decide
  reducesTo_S1024x1024_S_d0_1 := by decide
  bcast_S_S1x1024x8x128 := by decide
  reducesTo_S1x1024x8x128_S_d0_1_2_3 := by decide

/-- The precondition's shapes over the whole arrays fit. -/
theorem preFactsWhole : Cert.Pre_finite_scores_ReferenceIdeal.Facts where
  bcast_S_S1x4096x1024 := by decide
  reducesTo_S1x4096x1024_S_d0_1_2 := by decide
  h_S_ := by decide
  bcast_S_S1024x1024 := by decide
  reducesTo_S1024x1024_S_d0_1 := by decide
  bcast_S_S1x4096x8x128 := by decide
  reducesTo_S1x4096x8x128_S_d0_1_2_3 := by decide

end Cert.KernelIdeal.Ring

end
-- ==== Proof.KernRead.lean ====
module

public import proofs.«01_k».proof.Proof.Frames
public import Idealize.ShloMosaic.Lib.Pointwise

@[expose] public section

set_option maxRecDepth 16384

/-!
# The kernel's expressions, read at one element

Each of the kernel's vector expressions at an index, over extended reals: the scaled queries, a chunk's
weights, their sums and the weighted values, the quotient, and the projection.
-/

noncomputable section

namespace Cert.KernelIdeal.Ring

open Cert.KernelIdeal Cert.KernelIdeal.Gen
open Idealize.ShloMosaic Idealize.ShloMosaic.TcCoe
open Idealize.SL.Sem

/-- The output's cast to its own shape. -/
theorem pay1_apply (v) (i n : Fin 1024) : k0_pay1 (F := Ideal) v (ix3 0 i n) = v (ix2 i n) := by
  pointwise [k0_pay1]
/-- The keys with their heads laid side by side, -/
theorem pay2_apply (v) (i n : Fin 1024) : k0_pay2 (F := Ideal) v (ix2 i n) = v (ix4 0 i ⟨n.val / 128, by omega⟩ ⟨n.val % 128, by omega⟩) := by
  pointwise [k0_pay2]
/-- and the values. -/
theorem pay3_apply (v) (i n : Fin 1024) : k0_pay3 (F := Ideal) v (ix2 i n) = v (ix4 0 i ⟨n.val / 128, by omega⟩ ⟨n.val % 128, by omega⟩) := by
  pointwise [k0_pay3]
/-- The scaled queries. -/
theorem pay4_apply (x w) (i n : Fin 1024) : k0_pay4 (F := Ideal) x w (ix2 i n) = (∑ t : Fin 1024, x (ix3 0 i t) * w (ix2 t n)) * Ideal.ofBits .f32 0x3DB504F3#32 := by
  pointwise [k0_pay4]
/-- A chunk's weights: exponentials of the masked scores. -/
theorem pay12_apply (q k b) (i j : Fin 1024) : k0_pay12 (F := Ideal) q k b (ix2 i j) = Ideal.exp ((∑ d : Fin 128, q (ix2 i d) * k (ix2 j d)) + b (ix2 i j)) := by
  pointwise [k0_pay12]
/-- The first chunk's weighted values, -/
theorem pay13_apply (q k b v) (i : Fin 1024) (d : Fin 128) : k0_pay13 (F := Ideal) q k b v (ix2 i d) = ∑ j : Fin 1024, k0_pay12 (F := Ideal) q k b (ix2 i j) * v (ix2 j d) := by
  pointwise [k0_pay13]
/-- and its weights' sum, the same in every column. -/
theorem pay14_apply (q k b) (i : Fin 1024) (d : Fin 128) : k0_pay14 (F := Ideal) q k b (ix2 i d) = ∑ j : Fin 1024, k0_pay12 (F := Ideal) q k b (ix2 i j) := by
  pointwise [k0_pay14]
/-- A later chunk's weighted values, added to what was there, -/
theorem pay22_apply (q k b v a) (i : Fin 1024) (d : Fin 128) : k0_pay22 (F := Ideal) q k b v a (ix2 i d) = a (ix2 i d) + ∑ j : Fin 1024, k0_pay12 (F := Ideal) q k b (ix2 i j) * v (ix2 j d) := by
  pointwise [k0_pay22, k0_pay21, k0_pay12]
/-- and its weights' sum. -/
theorem pay23_apply (q k b l) (i : Fin 1024) (d : Fin 128) : k0_pay23 (F := Ideal) q k b l (ix2 i d) = l (ix2 i d) + ∑ j : Fin 1024, k0_pay12 (F := Ideal) q k b (ix2 i j) := by
  pointwise [k0_pay23, k0_pay21, k0_pay12]
/-- The quotient. -/
theorem pay42_apply (a l) (i : Fin 1024) (d : Fin 128) : k0_pay42 (F := Ideal) a l (ix2 i d) = Ideal.div (a (ix2 i d)) (l (ix2 i d)) := by
  pointwise [k0_pay42]
/-- The projection. -/
theorem pay43_apply (z w) (i n : Fin 1024) : k0_pay43 (F := Ideal) z w (ix2 i n) = ∑ t : Fin 1024, z (ix2 i t) * w (ix2 t n) := by
  pointwise [k0_pay43]

end Cert.KernelIdeal.Ring

end
-- ==== Proof.Bias.lean ====
module

public import proofs.«01_k».proof.Proof.KernRead

@[expose] public section

set_option maxRecDepth 16384

/-!
# The mask of a chunk, element by element

Every chunk's mask is computed by integer words: the block of 64 rows a query lies in, the block of
64 rows a key lies in, both counted over all four devices, and three tests of the two.  Here each
word is computed, and each mask is read as `0` where the pair is kept and `⊥` where it is not.
-/

noncomputable section

namespace Cert.KernelIdeal.Ring

open Cert.KernelIdeal Cert.KernelIdeal.Gen
open Idealize.ShloMosaic Idealize.ShloMosaic.TcCoe
open Idealize.SL.Sem

/-- Whether the pair of blocks `a` (of the query) and `b` (of the key) is kept. -/
def Kept (a b : ℕ) : Prop := a = b ∨ b = 0 ∨ (a + b) % 3 = 0

instance (a b : ℕ) : Decidable (Kept a b) := inferInstanceAs (Decidable (_ ∨ _ ∨ _))

/-- The sign of sixty-four, as the program computes it. -/
theorem sign_word :
    (Scalar.subi (Scalar.extui (Scalar.cmpi CmpIPredicate.sgt 64#32 0#32))
      (Scalar.extui (Scalar.cmpi CmpIPredicate.slt 64#32 0#32)) : BitVec 32) = 1#32 := by decide

/-- The floor of `i / 64`, as the program computes it: the quotient, corrected where the signs
differ and the remainder is not nought. -/
theorem floor_word (i : Fin 1024) :
    Scalar.select
      (IntOp.andi
        (IntOp.cmpi CmpIPredicate.ne
          (IntOp.subi (BitVec.setWidth 32 (IntOp.cmpi CmpIPredicate.sgt (BitVec.ofNat 32 i.val) 0#32))
            (BitVec.setWidth 32 (IntOp.cmpi CmpIPredicate.slt (BitVec.ofNat 32 i.val) 0#32)))
          1#32)
        (IntOp.cmpi CmpIPredicate.ne (IntOp.remsi ArithUnit.vector (BitVec.ofNat 32 i.val) 64#32) 0#32))
      (IntOp.subi (IntOp.divsi ArithUnit.vector (BitVec.ofNat 32 i.val) 64#32) 1#32)
      (IntOp.divsi ArithUnit.vector (BitVec.ofNat 32 i.val) 64#32)
      = BitVec.ofNat 32 (i.val / 64) := by
  revert i
  decide +kernel

/-- The first block of device `c`'s rows. -/
theorem word_base (c : Dev nD) : Scalar.muli (word c) 16#32 = BitVec.ofNat 32 (16 * c.val) := by
  revert c
  decide +kernel

/-- The first block of the rows that reached device `c` after `s` hops. -/
theorem origin_base0 (c : Dev nD) : Scalar.muli (origin c 0#32) 16#32 = BitVec.ofNat 32 (16 * (back c 0).val) := by
  revert c
  decide +kernel
theorem origin_base1 (c : Dev nD) : Scalar.muli (origin c 1#32) 16#32 = BitVec.ofNat 32 (16 * (back c 1).val) := by
  revert c
  decide +kernel
theorem origin_base2 (c : Dev nD) : Scalar.muli (origin c 2#32) 16#32 = BitVec.ofNat 32 (16 * (back c 2).val) := by
  revert c
  decide +kernel
theorem origin_base3 (c : Dev nD) : Scalar.muli (origin c 3#32) 16#32 = BitVec.ofNat 32 (16 * (back c 3).val) := by
  revert c
  decide +kernel

/-- The sum of two small words. -/
theorem add_word (a b : ℕ) : IntOp.addi (BitVec.ofNat 32 a) (BitVec.ofNat 32 b) = BitVec.ofNat 32 (a + b) := by
  simp [IntOp.addi, BitVec.ofNat_add]

/-- The four tests, on block numbers below sixty-four. -/
theorem kept_word (a b : Fin 64) :
    IntOp.ori
      (IntOp.ori
        (IntOp.ori (IntOp.cmpi CmpIPredicate.eq (BitVec.ofNat 32 a.val) (BitVec.ofNat 32 b.val))
          (IntOp.cmpi CmpIPredicate.eq (BitVec.ofNat 32 b.val) 0#32))
        (IntOp.cmpi CmpIPredicate.eq
          (IntOp.addi (IntOp.remsi ArithUnit.vector (BitVec.ofNat 32 a.val) 3#32)
            (IntOp.remsi ArithUnit.vector (BitVec.ofNat 32 b.val) 3#32)) 0#32))
      (IntOp.cmpi CmpIPredicate.eq
        (IntOp.addi (IntOp.remsi ArithUnit.vector (BitVec.ofNat 32 a.val) 3#32)
          (IntOp.remsi ArithUnit.vector (BitVec.ofNat 32 b.val) 3#32)) 3#32)
      = if Kept a.val b.val then 1#1 else 0#1 := by
  revert a b
  decide +kernel

/-- The large negative constant of the mask, at the ideal instance. -/
theorem mask_const (b : BitVec (FTy.bits .f32)) : Named.named (F := Ideal) (φ := .f32) κ "mask" b = (⊥ : EReal) :=
  IdealRules.named_const.ideal_named_scalar κ "mask" b ⊥ rfl

/-- The selection by the four tests. -/
theorem kept_select (a b : ℕ) (ha : a < 64) (hb : b < 64) (x y : EReal) :
    Scalar.select
      (IntOp.ori
      (IntOp.ori
        (IntOp.ori (IntOp.cmpi CmpIPredicate.eq (BitVec.ofNat 32 a) (BitVec.ofNat 32 b))
          (IntOp.cmpi CmpIPredicate.eq (BitVec.ofNat 32 b) 0#32))
        (IntOp.cmpi CmpIPredicate.eq
          (IntOp.addi (IntOp.remsi ArithUnit.vector (BitVec.ofNat 32 a) 3#32)
            (IntOp.remsi ArithUnit.vector (BitVec.ofNat 32 b) 3#32)) 0#32))
      (IntOp.cmpi CmpIPredicate.eq
        (IntOp.addi (IntOp.remsi ArithUnit.vector (BitVec.ofNat 32 a) 3#32)
          (IntOp.remsi ArithUnit.vector (BitVec.ofNat 32 b) 3#32)) 3#32)) x y
      = if Kept a b then x else y := by
  rw [kept_word ⟨a, ha⟩ ⟨b, hb⟩]
  by_cases h : Kept a b <;> simp [h, Scalar.select]

/-- The mask of the chunk that has made `s` hops: `0` at a kept pair, `⊥` at any other. -/
def biasVal (c : Dev nD) (s : ℕ) (i j : Fin 1024) : EReal :=
  if Kept (i.val / 64 + 16 * c.val) (j.val / 64 + 16 * (back c s).val) then 0 else ⊥

theorem row_lt (c : Dev nD) (i : Fin 1024) : i.val / 64 + 16 * c.val < 64 := by
  have := c.isLt
  have : c.val < 4 := c.isLt
  omega

theorem bias0_apply (c : Dev nD) (i j : Fin 1024) : bias0 (F := Ideal) c (ix2 i j) = biasVal c 0 i j := by
  pointwise [bias0, k0_pay11, k0_pay10, k0_pay9, k0_pay8, k0_pay7, k0_pay6, k0_pay5]
  simp only [sign64, pos64, sign_word, floor_word, word_base, origin_base0, add_word, mask_const]
  rw [kept_select _ _ (row_lt _ _) (row_lt _ _)]
  rfl

theorem bias1_apply (c : Dev nD) (i j : Fin 1024) : bias1 (F := Ideal) c (ix2 i j) = biasVal c 1 i j := by
  pointwise [bias1, k0_pay20, k0_pay19, k0_pay18, k0_pay17, k0_pay16, k0_pay15]
  simp only [sign64, pos64, sign_word, floor_word, word_base, origin_base1, add_word, mask_const]
  rw [kept_select _ _ (row_lt _ _) (row_lt _ _)]
  rfl

theorem bias2_apply (c : Dev nD) (i j : Fin 1024) : bias2 (F := Ideal) c (ix2 i j) = biasVal c 2 i j := by
  pointwise [bias2, k0_pay27, k0_pay26, k0_pay25, k0_pay24]
  simp only [sign64, pos64, sign_word, floor_word, word_base, origin_base2, add_word, mask_const]
  rw [kept_select _ _ (row_lt _ _) (row_lt _ _)]
  rfl

theorem bias3_apply (c : Dev nD) (i j : Fin 1024) : bias3 (F := Ideal) c (ix2 i j) = biasVal c 3 i j := by
  pointwise [bias3, k0_pay38, k0_pay37, k0_pay36, k0_pay35, k0_pay34, k0_pay33, k0_pay32, k0_pay31]
  simp only [sign64, pos64, sign_word, floor_word, word_base, origin_base3, add_word, mask_const]
  rw [kept_select _ _ (row_lt _ _) (row_lt _ _)]
  rfl

end Cert.KernelIdeal.Ring

end
-- ==== Proof.Whole.lean ====
module

public import proofs.«01_k».proof.Proof.Frames
public import Idealize.ShloMosaic.Lib.Pipeline.ValueKit.Geometry

@[expose] public section

set_option maxRecDepth 16384

/-!
# The staged arrays and the result array are whole arrays

Every window of the launch is a whole array, so what is staged is the argument and what is written
back is the result.
-/

noncomputable section

namespace Cert.KernelIdeal.Ring

open Cert.KernelIdeal Cert.KernelIdeal.Gen
open Idealize.ShloMosaic Idealize.ShloMosaic.TcCoe
open Idealize.SL.Sem

variable {F : FTy → Type} [FloatOps F] [Named F]
variable (m : (ℓ : Loc nD τ sig) → Buf (Elt F) ℓ)

/-- The launch's only point. -/
def pt0 : Fin grid0.N := ⟨0, by decide⟩

theorem index0 : ∀ a, win0_0.index pt0 a = 0 := by decide +kernel
theorem inX_eq (c : Dev nD) : inX m c = m ((c : Thread nD τ).loc main_arg0) := by
  funext i
  blk_simp [inX]
  congr 1
  funext a
  apply Fin.ext
  fin_cases a <;> blk_simp <;> first
    | exact index0 _
    | (rw [Nat.add_eq_right]; exact Nat.mul_eq_zero.mpr (Or.inl (index0 _)))

theorem index1 : ∀ a, win0_1.index pt0 a = 0 := by decide +kernel
theorem inWq_eq (c : Dev nD) : inWq m c = m ((c : Thread nD τ).loc main_arg1) := by
  funext i
  blk_simp [inWq]
  congr 1
  funext a
  apply Fin.ext
  fin_cases a <;> blk_simp <;> first
    | exact index1 _
    | (rw [Nat.add_eq_right]; exact Nat.mul_eq_zero.mpr (Or.inl (index1 _)))

theorem index2 : ∀ a, win0_2.index pt0 a = 0 := by decide +kernel
theorem inK_eq (c : Dev nD) : inK m c = m ((c : Thread nD τ).loc main_arg2) := by
  funext i
  blk_simp [inK]
  congr 1
  funext a
  apply Fin.ext
  fin_cases a <;> blk_simp <;> first
    | exact index2 _
    | (rw [Nat.add_eq_right]; exact Nat.mul_eq_zero.mpr (Or.inl (index2 _)))

theorem index3 : ∀ a, win0_3.index pt0 a = 0 := by decide +kernel
theorem inV_eq (c : Dev nD) : inV m c = m ((c : Thread nD τ).loc main_arg3) := by
  funext i
  blk_simp [inV]
  congr 1
  funext a
  apply Fin.ext
  fin_cases a <;> blk_simp <;> first
    | exact index3 _
    | (rw [Nat.add_eq_right]; exact Nat.mul_eq_zero.mpr (Or.inl (index3 _)))

theorem index4 : ∀ a, win0_4.index pt0 a = 0 := by decide +kernel
theorem inWo_eq (c : Dev nD) : inWo m c = m ((c : Thread nD τ).loc main_arg4) := by
  funext i
  blk_simp [inWo]
  congr 1
  funext a
  apply Fin.ext
  fin_cases a <;> blk_simp <;> first
    | exact index4 _
    | (rw [Nat.add_eq_right]; exact Nat.mul_eq_zero.mpr (Or.inl (index4 _)))

theorem whole5 : win0_5.WholeAt pt0 := ⟨by decide +kernel, by decide +kernel, by decide +kernel⟩

theorem result_eq (c : Dev nD) : result m c = outC m c := by
  unfold result
  funext i
  refine (Pipeline.Dat.arrAt_emb_eq_after_last (dats m 0 c) (5 : Fin 6) pt0 whole5 i).trans ?_
  blk_simp
  rfl

end Cert.KernelIdeal.Ring

end
-- ==== Proof.KernVal.lean ====
module

public import proofs.«01_k».proof.Proof.Bias
public import proofs.«01_k».proof.Proof.Whole

@[expose] public section

set_option maxRecDepth 16384

/-!
# The kernel's result, element by element

The output's element is a sum over the context's columns; the context's element is a quotient; its
two parts are sums over the four chunks, in the order in which they reach the device, of sums over
each chunk's keys.
-/

noncomputable section

namespace Cert.KernelIdeal.Ring

open Cert.KernelIdeal Cert.KernelIdeal.Gen
open Idealize.ShloMosaic Idealize.ShloMosaic.TcCoe
open Idealize.SL.Sem

variable (m : (ℓ : Loc nD τ sig) → Buf (Elt Ideal) ℓ)

/-- The arguments of device `c`. -/
def aX (c : Dev nD) : S1x1024x1024.Idx → EReal := m ((c : Thread nD τ).loc main_arg0)
def aWq (c : Dev nD) : S1024x1024.Idx → EReal := m ((c : Thread nD τ).loc main_arg1)
def aK (c : Dev nD) : S1x1024x8x128.Idx → EReal := m ((c : Thread nD τ).loc main_arg2)
def aV (c : Dev nD) : S1x1024x8x128.Idx → EReal := m ((c : Thread nD τ).loc main_arg3)
def aWo (c : Dev nD) : S1024x1024.Idx → EReal := m ((c : Thread nD τ).loc main_arg4)

/-- The column of head `h`'s element `d`. -/
def col (h : Fin 8) (d : Fin 128) : Fin 1024 := ⟨128 * h.val + d.val, by omega⟩

theorem panel_apply {α : Type} (h : Fin 8) (f : S1024x1024.Idx → α) (i : Fin 1024) (d : Fin 128) :
    panel h.val f (ix2 i d) = f (ix2 i (col h d)) := by
  unfold panel
  congr 1
  exact idx2_ext (Nat.mod_eq_of_lt i.isLt) (Nat.mod_eq_of_lt (col h d).isLt)

theorem assemble_apply {α : Type} (g : ℕ → S1024x128.Idx → α) (h : Fin 8) (i : Fin 1024) (d : Fin 128) :
    assemble g (ix2 i (col h d)) = g h.val (ix2 i d) := by
  rw [← panel_apply h (assemble g), panel_assemble g h.val h.isLt]

/-- A chunk's keys of a head, read in the buffer of slots. -/
theorem keys_apply (c : Dev nD) (s : Fin 4) (h : Fin 8) (j : Fin 1024) (d : Fin 128) :
    kvPanel (1024 * s.val) (128 * h.val) (kvF m c) (ix2 j d) = aK m (back c s.val) (ix4 0 j h d) := by
  have e0 : ((1024 * s.val + j.val) % 4096) / 1024 = s.val := by omega
  have e1 : ((1024 * s.val + j.val) % 4096) % 1024 = j.val := by omega
  have e2 : (128 * h.val + d.val) % 2048 = 128 * h.val + d.val := by omega
  show kvOwn m (back c (((1024 * s.val + j.val) % 4096) / 1024)) (((1024 * s.val + j.val) % 4096) % 1024) ((128 * h.val + d.val) % 2048) = _
  rw [e0, e1, e2]
  unfold kvOwn
  rw [if_pos (by omega)]
  have e : sq j.val (128 * h.val + d.val) = ix2 j (col h d) :=
    idx2_ext (Nat.mod_eq_of_lt j.isLt) (Nat.mod_eq_of_lt (col h d).isLt)
  rw [e, pay2_apply, inK_eq]
  show aK m _ _ = aK m _ _
  congr 1
  have a : (⟨(col h d).val / 128, by omega⟩ : Fin 8) = h := Fin.ext (by simp only [col]; omega)
  have b : (⟨(col h d).val % 128, by omega⟩ : Fin 128) = d := Fin.ext (by simp only [col]; omega)
  rw [a, b]

/-- A chunk's values of a head, read in the buffer of slots. -/
theorem vals_apply (c : Dev nD) (s : Fin 4) (h : Fin 8) (j : Fin 1024) (d : Fin 128) :
    kvPanel (1024 * s.val) (128 * h.val + 1024) (kvF m c) (ix2 j d) = aV m (back c s.val) (ix4 0 j h d) := by
  have e0 : ((1024 * s.val + j.val) % 4096) / 1024 = s.val := by omega
  have e1 : ((1024 * s.val + j.val) % 4096) % 1024 = j.val := by omega
  have e2 : (128 * h.val + 1024 + d.val) % 2048 = 128 * h.val + d.val + 1024 := by omega
  show kvOwn m (back c (((1024 * s.val + j.val) % 4096) / 1024)) (((1024 * s.val + j.val) % 4096) % 1024) ((128 * h.val + 1024 + d.val) % 2048) = _
  rw [e0, e1, e2]
  unfold kvOwn
  rw [if_neg (by omega), Nat.add_sub_cancel]
  have e : sq j.val (128 * h.val + d.val) = ix2 j (col h d) :=
    idx2_ext (Nat.mod_eq_of_lt j.isLt) (Nat.mod_eq_of_lt (col h d).isLt)
  rw [e, pay3_apply, inV_eq]
  show aV m _ _ = aV m _ _
  congr 1
  have a : (⟨(col h d).val / 128, by omega⟩ : Fin 8) = h := Fin.ext (by simp only [col]; omega)
  have b : (⟨(col h d).val % 128, by omega⟩ : Fin 128) = d := Fin.ext (by simp only [col]; omega)
  rw [a, b]

/-- The score of a query of device `c` and a key of the chunk that has made `s` hops. -/
def chunkScore (c : Dev nD) (s : ℕ) (h : Fin 8) (i j : Fin 1024) : EReal :=
  ∑ d : Fin 128, (∑ t : Fin 1024, aX m c (ix3 0 i t) * aWq m c (ix2 t (col h d))) * Ideal.ofBits .f32 0x3DB504F3#32
    * aK m (back c s) (ix4 0 j h d)

/-- Its weight, not yet divided. -/
def chunkExp (c : Dev nD) (s : ℕ) (h : Fin 8) (i j : Fin 1024) : EReal :=
  Ideal.exp (chunkScore m c s h i j + biasVal c s i j)

/-- The weight the kernel computes for a chunk's key. -/
theorem weight_apply (c : Dev nD) (s : Fin 4) (h : Fin 8) (b : S1024x1024.Idx → Elt Ideal .f32) (i j : Fin 1024)
    (hb : b (ix2 i j) = biasVal c s.val i j) :
    k0_pay12 (F := Ideal) (panel h.val (Qc m c)) (kvPanel (1024 * s.val) (128 * h.val) (kvF m c)) b (ix2 i j) = chunkExp m c s.val h i j := by
  rw [pay12_apply, hb]
  unfold chunkExp chunkScore
  congr 2
  refine Finset.sum_congr rfl fun d _ => ?_
  rw [keys_apply, panel_apply]
  unfold Qc
  rw [pay4_apply, inX_eq, inWq_eq]
  rfl

/-- The weighted values of a chunk, and its weights' sum. -/
def chunkAcc (c : Dev nD) (s : ℕ) (h : Fin 8) (i : Fin 1024) (d : Fin 128) : EReal :=
  ∑ j : Fin 1024, chunkExp m c s h i j * aV m (back c s) (ix4 0 j h d)
def chunkDen (c : Dev nD) (s : ℕ) (h : Fin 8) (i : Fin 1024) : EReal := ∑ j : Fin 1024, chunkExp m c s h i j

theorem acc0_apply (c : Dev nD) (h : Fin 8) (i : Fin 1024) (d : Fin 128) :
    acc0 m c (ix2 i (col h d)) = chunkAcc m c 0 h i d := by
  unfold acc0 chunkAcc
  rw [assemble_apply, pay13_apply]
  refine Finset.sum_congr rfl fun j _ => ?_
  exact congr_arg₂ _ (weight_apply m c 0 h _ i j (bias0_apply c i j)) (vals_apply m c 0 h j d)

theorem den0_apply (c : Dev nD) (h : Fin 8) (i : Fin 1024) (d : Fin 128) :
    den0 m c (ix2 i (col h d)) = chunkDen m c 0 h i := by
  unfold den0 chunkDen
  rw [assemble_apply, pay14_apply]
  refine Finset.sum_congr rfl fun j _ => ?_
  exact weight_apply m c 0 h _ i j (bias0_apply c i j)

theorem accAdd_apply (c : Dev nD) (s : Fin 4) (b a : S1024x1024.Idx → Elt Ideal .f32) (h : Fin 8) (i : Fin 1024) (d : Fin 128)
    (hb : ∀ i j, b (ix2 i j) = biasVal c s.val i j) :
    accAdd m c (1024 * s.val) b a (ix2 i (col h d)) = a (ix2 i (col h d)) + chunkAcc m c s.val h i d := by
  unfold accAdd chunkAcc
  rw [assemble_apply, pay22_apply, panel_apply]
  congr 1
  refine Finset.sum_congr rfl fun j _ => ?_
  rw [vals_apply, weight_apply m c s h b i j (hb i j)]

theorem denAdd_apply (c : Dev nD) (s : Fin 4) (b l : S1024x1024.Idx → Elt Ideal .f32) (h : Fin 8) (i : Fin 1024) (d : Fin 128)
    (hb : ∀ i j, b (ix2 i j) = biasVal c s.val i j) :
    denAdd m c (1024 * s.val) b l (ix2 i (col h d)) = l (ix2 i (col h d)) + chunkDen m c s.val h i := by
  unfold denAdd chunkDen
  rw [assemble_apply, pay23_apply, panel_apply]
  congr 1
  refine Finset.sum_congr rfl fun j _ => ?_
  rw [weight_apply m c s h b i j (hb i j)]

/-- All four chunks' weighted values and weights. -/
theorem acc3_apply (c : Dev nD) (h : Fin 8) (i : Fin 1024) (d : Fin 128) :
    acc3 m c (ix2 i (col h d)) = ∑ s : Fin 4, chunkAcc m c s.val h i d := by
  rw [Fin.sum_univ_four]
  have e : chunkAcc m c (0 : Fin 4).val h i d = acc0 m c (ix2 i (col h d)) := (acc0_apply m c h i d).symm
  rw [e]
  unfold acc3 acc2 acc1
  rw [← accAdd_apply m c 1 _ _ h i d (bias1_apply c), ← accAdd_apply m c 2 _ _ h i d (bias2_apply c),
    ← accAdd_apply m c 3 _ _ h i d (bias3_apply c)]
  rfl

theorem den3_apply (c : Dev nD) (h : Fin 8) (i : Fin 1024) (d : Fin 128) :
    den3 m c (ix2 i (col h d)) = ∑ s : Fin 4, chunkDen m c s.val h i := by
  rw [Fin.sum_univ_four]
  have e : chunkDen m c (0 : Fin 4).val h i = den0 m c (ix2 i (col h d)) := (den0_apply m c h i d).symm
  rw [e]
  unfold den3 den2 den1
  rw [← denAdd_apply m c 1 _ _ h i d (bias1_apply c), ← denAdd_apply m c 2 _ _ h i d (bias2_apply c),
    ← denAdd_apply m c 3 _ _ h i d (bias3_apply c)]
  rfl

/-- The context of a head. -/
theorem ctx_apply (c : Dev nD) (h : Fin 8) (i : Fin 1024) (d : Fin 128) :
    ctx m c (ix2 i (col h d)) = Ideal.div (∑ s : Fin 4, chunkAcc m c s.val h i d) (∑ s : Fin 4, chunkDen m c s.val h i) := by
  unfold ctx
  rw [assemble_apply, pay42_apply, panel_apply, panel_apply, acc3_apply, den3_apply]

/-- The output. -/
theorem outC_apply (c : Dev nD) (i n : Fin 1024) :
    outC m c (ix3 0 i n) = ∑ t : Fin 1024, ctx m c (ix2 i t) * aWo m c (ix2 t n) := by
  unfold outC
  rw [pay1_apply, pay43_apply, inWo_eq]
  rfl

end Cert.KernelIdeal.Ring

end
-- ==== Proof.RefStages.lean ====
/-
The reference's result by its stages, each at extended reals and read at one element: the mask, the queries, the
scores, the row's maximum and sum, the weights, the attention and the projected output.
-/
module

public import proofs.«01_k».proof.Proof.Gen.ReferenceIdeal.Run
public import Idealize.ShloMosaic.Lib.Pointwise

@[expose] public section

set_option maxRecDepth 16384

noncomputable section

namespace Cert.ReferenceIdeal.Stages

open Cert.ReferenceIdeal Cert.ReferenceIdeal.Gen
open Idealize.ShloMosaic Idealize.ShloMosaic.TcCoe
open Idealize.SL.Sem

/-- The block of 64 that each row or column lies in, by floor division. -/
def blk : IVec S4096 32 :=
  select (andi (cmpi .ne (signi (iotaInDim S4096 32 0)) (broadcastInDim S4096 ![] bcast_S_S4096 (signi (id (constantI S_ 32 64#32)))))
      (cmpi .ne (Host.remsi (iotaInDim S4096 32 0) (broadcastInDim S4096 ![] bcast_S_S4096 (id (constantI S_ 32 64#32)))) (broadcastInDim S4096 ![] bcast_S_S4096 (constantI S_ 32 0#32))))
    (subi (Host.divsi (iotaInDim S4096 32 0) (broadcastInDim S4096 ![] bcast_S_S4096 (id (constantI S_ 32 64#32)))) (broadcastInDim S4096 ![] bcast_S_S4096 (constantI S_ 32 1#32)))
    (Host.divsi (iotaInDim S4096 32 0) (broadcastInDim S4096 ![] bcast_S_S4096 (id (constantI S_ 32 64#32))))

/-- The query's block and the key's block at each pair. -/
def qblk : IVec S4096x4096 32 := broadcastInDim S4096x4096 ![0, 1] bcast_S4096x1_S4096x4096_0_1 (broadcastInDim S4096x1 ![0] bcast_S4096_S4096x1_0 blk)
def kblk1 : IVec S1x4096 32 := broadcastInDim S1x4096 ![1] bcast_S4096_S1x4096_1 blk
def kblk : IVec S4096x4096 32 := broadcastInDim S4096x4096 ![0, 1] bcast_S1x4096_S4096x4096_0_1 kblk1

/-- The divisor 3 and the remainder's first form, as printed. -/
def three : IVec S_ 32 := select (cmpi .eq (id (constantI S_ 32 3#32)) (constantI S_ 32 0#32)) (constantI S_ 32 1#32) (id (constantI S_ 32 3#32))
def rem3 : IVec S4096x4096 32 := Host.remsi (addi qblk kblk) (broadcastInDim S4096x4096 ![] bcast_S_S4096x4096 three)

/-- The mask of the pairs that are kept. -/
def mask : IVec S4096x4096 1 :=
  ori (ori (cmpi .eq qblk kblk) (broadcastInDim S4096x4096 ![0, 1] bcast_S1x4096_S4096x4096_0_1 (cmpi .eq kblk1 (broadcastInDim S1x4096 ![] bcast_S_S1x4096 (constantI S_ 32 0#32)))))
    (cmpi .eq (select (andi (cmpi .ne (cmpi .slt rem3 (broadcastInDim S4096x4096 ![] bcast_S_S4096x4096 (constantI S_ 32 0#32)))
            (broadcastInDim S4096x4096 ![] bcast_S_S4096x4096 (cmpi .slt three (constantI S_ 32 0#32))))
          (cmpi .ne rem3 (broadcastInDim S4096x4096 ![] bcast_S_S4096x4096 (constantI S_ 32 0#32))))
        (addi rem3 (broadcastInDim S4096x4096 ![] bcast_S_S4096x4096 three)) rem3)
      (broadcastInDim S4096x4096 ![] bcast_S_S4096x4096 (constantI S_ 32 0#32)))

/-- The rows of the mask that keep some pair. -/
def rowKeep : IVec S4096 1 := Host.reduce IntOp.ori mask (constantI S_ 1 0#1) reducesTo_S4096x4096_S4096_d1 h_S_
def rowKeep4 : IVec S1x1x4096x1 1 := broadcastInDim S1x1x4096x1 ![2] bcast_S4096_S1x1x4096x1_2 rowKeep

variable (x : FVec Ideal S1x4096x1024 .bf16) (wq : FVec Ideal S1024x1024 .bf16) (k v : FVec Ideal S1x4096x8x128 .bf16) (wo : FVec Ideal S1024x1024 .bf16)

/-- The queries by heads. -/
def Q : FVec Ideal S1x4096x8x128 .bf16 :=
  shapeCast _ (truncf .bf16 (Host.dotGeneral dot_S1x4096x1024_S1024x1024_S1x4096x1024_2_0_01_1_n_n none x wq) bitsLt_bf16_f32) shapeCasts_S1x4096x1024_S1x4096x8x128

/-- The products of queries and keys, and the scores: scaled, the masked ones −∞. -/
def dots : FVec Ideal S1x8x4096x4096 .f32 :=
  Host.dotGeneral dot_S1x4096x8x128_S1x4096x8x128_S1x8x4096x4096_3_3_1_1_02_02 none (Q x wq) k
def scores : FVec Ideal S1x8x4096x4096 .f32 :=
  select (broadcastInDim S1x8x4096x4096 ![0, 1, 2, 3] bcast_S1x1x4096x4096_S1x8x4096x4096_0_1_2_3 (broadcastInDim S1x1x4096x4096 ![2, 3] bcast_S4096x4096_S1x1x4096x4096_2_3 mask))
    (mulf (extf .f32 (truncf .bf16 (dots x wq k) bitsLt_bf16_f32) bitsLt_bf16_f32) (broadcastInDim S1x8x4096x4096 ![] bcast_S_S1x8x4096x4096 (constant S_ .f32 0x3DB504F3#32)))
    (broadcastInDim S1x8x4096x4096 ![] bcast_S_S1x8x4096x4096 (id (constant S_ .f32 0xFF800000#32)))

/-- Each row's greatest score, the exponentials under it, and their sum. -/
def top : FVec Ideal S1x8x4096 .f32 :=
  Host.reduce FloatOps.maximumf (scores x wq k) (constant S_ .f32 0xFF800000#32) reducesTo_S1x8x4096x4096_S1x8x4096_d3 h_S_
def expo : FVec Ideal S1x8x4096x4096 .f32 :=
  Host.exp (subf (scores x wq k) (broadcastInDim S1x8x4096x4096 ![0, 1, 2, 3] bcast_S1x8x4096x1_S1x8x4096x4096_0_1_2_3 (broadcastInDim S1x8x4096x1 ![0, 1, 2] bcast_S1x8x4096_S1x8x4096x1_0_1_2 (top x wq k))))
def total : FVec Ideal S1x8x4096 .f32 :=
  Host.reduceAdd (expo x wq k) (constant S_ .f32 0x00000000#32) reducesTo_S1x8x4096x4096_S1x8x4096_d3 h_S_

/-- The weights. -/
def divisor : FVec Ideal S1x8x4096x1 .f32 :=
  select (broadcastInDim S1x8x4096x1 ![0, 1, 2, 3] bcast_S1x1x4096x1_S1x8x4096x1_0_1_2_3 rowKeep4)
    (broadcastInDim S1x8x4096x1 ![0, 1, 2] bcast_S1x8x4096_S1x8x4096x1_0_1_2 (total x wq k)) (broadcastInDim S1x8x4096x1 ![] bcast_S_S1x8x4096x1 (id (constant S_ .f32 0x3F800000#32)))
def divisor4 : FVec Ideal S1x8x4096x4096 .f32 := broadcastInDim S1x8x4096x4096 ![0, 1, 2, 3] bcast_S1x8x4096x1_S1x8x4096x4096_0_1_2_3 (divisor x wq k)
def quot : FVec Ideal S1x8x4096x4096 .f32 := Host.divf (expo x wq k) (divisor4 x wq k)
def keep4 : IVec S1x8x4096x4096 1 := broadcastInDim S1x8x4096x4096 ![0, 1, 2, 3] bcast_S1x1x4096x1_S1x8x4096x4096_0_1_2_3 rowKeep4
def zero4 : FVec Ideal S1x8x4096x4096 .f32 := broadcastInDim S1x8x4096x4096 ![] bcast_S_S1x8x4096x4096 (id (constant S_ .f32 0x00000000#32))
def weights : FVec Ideal S1x8x4096x4096 .f32 := select keep4 (quot x wq k) zero4

/-- The attention of each head, and the projected output. -/
def attn : FVec Ideal S1x8x128x4096 .f32 :=
  Host.dotGeneral dot_S1x4096x8x128_S1x8x4096x4096_S1x8x128x4096_1_3_3_2_02_01 none v (weights x wq k)
def out : FVec Ideal S1x4096x1024 .f32 :=
  Host.dotGeneral dot_S1x4096x1024_S1024x1024_S1x4096x1024_2_0_01_1_n_n none
    (shapeCast _ (transpose S1x4096x8x128 [0, 3, 1, 2] (attn x wq k v) transposes_S1x8x128x4096_S1x4096x8x128_0_3_1_2) shapeCasts_S1x4096x8x128_S1x4096x1024) wo

/-- The reference's result is the last stage. -/
theorem result_eq (m : (ℓ : Loc nD τ sig) → Buf (Elt Ideal) ℓ) (c : Dev nD) :
    Value.res_main_v47 m c = out (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

end Cert.ReferenceIdeal.Stages

end
-- ==== Proof.RefRead.lean ====
/-
Each stage of the reference read at one element.
-/
module

public import proofs.«01_k».proof.Proof.RefStages

@[expose] public section

set_option maxRecDepth 16384

noncomputable section

namespace Cert.ReferenceIdeal.Stages

open Cert.ReferenceIdeal Cert.ReferenceIdeal.Gen
open Idealize.ShloMosaic Idealize.ShloMosaic.TcCoe
open Idealize.SL.Sem

variable (x : FVec Ideal S1x4096x1024 .bf16) (wq : FVec Ideal S1024x1024 .bf16) (k v : FVec Ideal S1x4096x8x128 .bf16) (wo : FVec Ideal S1024x1024 .bf16)

theorem blk_word : ∀ (a b : Fin 64),
   Scalar.select
      (IntOp.andi
        (IntOp.cmpi CmpIPredicate.ne (if BitVec.ofNat 32 (64 * a.val + b.val) = 0 then (0 : BitVec 32) else if (BitVec.ofNat 32 (64 * a.val + b.val)).msb = true then -1 else 1)
          (if (64#32 : BitVec 32) = 0 then 0 else if (64#32 : BitVec 32).msb = true then -1 else 1))
        (IntOp.cmpi CmpIPredicate.ne (IntOp.remsi ArithUnit.host (BitVec.ofNat 32 (64 * a.val + b.val)) 64#32)
          0#32))
      (IntOp.subi (IntOp.divsi ArithUnit.host (BitVec.ofNat 32 (64 * a.val + b.val)) 64#32) 1#32)
      (IntOp.divsi ArithUnit.host (BitVec.ofNat 32 (64 * a.val + b.val)) 64#32) =
    BitVec.ofNat 32 a.val := by
  decide +kernel

theorem blk_apply (i : Fin 4096) : blk (ix1 i) = BitVec.ofNat 32 (i.val / 64) := by
  pointwise [blk, id]
  have := blk_word ⟨i.val / 64, by omega⟩ ⟨i.val % 64, by omega⟩
  simp only [Nat.div_add_mod] at this
  exact this

theorem keep_word : ∀ (a b : Fin 64),
    IntOp.ori
      (IntOp.ori (IntOp.cmpi CmpIPredicate.eq (BitVec.ofNat 32 a.val) (BitVec.ofNat 32 b.val))
        (IntOp.cmpi CmpIPredicate.eq (BitVec.ofNat 32 b.val) 0#32))
      (IntOp.cmpi CmpIPredicate.eq
        (Scalar.select
          (IntOp.andi
            (IntOp.cmpi CmpIPredicate.ne
              (IntOp.cmpi CmpIPredicate.slt
                (IntOp.remsi ArithUnit.host (IntOp.addi (BitVec.ofNat 32 a.val) (BitVec.ofNat 32 b.val)) 3#32)
                0#32) 0#1)
            (IntOp.cmpi CmpIPredicate.ne
              (IntOp.remsi ArithUnit.host (IntOp.addi (BitVec.ofNat 32 a.val) (BitVec.ofNat 32 b.val)) 3#32)
              0#32))
          (IntOp.addi
            (IntOp.remsi ArithUnit.host (IntOp.addi (BitVec.ofNat 32 a.val) (BitVec.ofNat 32 b.val)) 3#32) 3#32)
          (IntOp.remsi ArithUnit.host (IntOp.addi (BitVec.ofNat 32 a.val) (BitVec.ofNat 32 b.val)) 3#32))
        0#32) = if a.val = b.val ∨ b.val = 0 ∨ (a.val + b.val) % 3 = 0 then 1#1 else 0#1 := by
  decide +kernel

theorem three_apply : three ix0 = 3#32 := by
  pointwise [three, id]
  decide

theorem mask_apply (i j : Fin 4096) : mask (ix2 i j) = if i.val / 64 = j.val / 64 ∨ j.val / 64 = 0 ∨ (i.val / 64 + j.val / 64) % 3 = 0 then 1#1 else 0#1 := by
  pointwise [mask, qblk, kblk, kblk1, rem3, three_apply, blk_apply]
  exact keep_word ⟨i.val / 64, by omega⟩ ⟨j.val / 64, by omega⟩

theorem rowKeep_apply (i : Fin 4096) : rowKeep (ix1 i) = Finset.fold IntOp.ori (0#1) (fun x => mask (ix2 i x)) Finset.univ := by
  pointwise [rowKeep]

theorem Q_apply (i : Fin 4096) (h : Fin 8) (d : Fin 128) : Q x wq (ix4 0 i h d) = ∑ t : Fin 1024, x (ix3 0 i t) * wq (ix2 t ⟨h.val * 128 + d.val, by omega⟩) := by
  pointwise [Q]

theorem dots_apply (i j : Fin 4096) (h : Fin 8) : dots x wq k (ix4 0 h i j) = ∑ d : Fin 128, Q x wq (ix4 0 i h d) * k (ix4 0 j h d) := by
  pointwise [dots]

theorem scores_apply (i j : Fin 4096) (h : Fin 8) : scores x wq k (ix4 0 h i j) = Scalar.select (mask (ix2 i j)) (dots x wq k (ix4 0 h i j) * Ideal.ofBits FTy.f32 0x3DB504F3#32) (Ideal.ofBits .f32 0xFF800000#32) := by
  pointwise [scores, id]

theorem top_apply (i : Fin 4096) (h : Fin 8) : top x wq k (ix3 0 h i) = Finset.fold max (Ideal.ofBits FTy.f32 0xFF800000#32) (fun j => scores x wq k (ix4 0 h i j)) Finset.univ := by
  pointwise [top]

theorem expo_apply (i j : Fin 4096) (h : Fin 8) : expo x wq k (ix4 0 h i j) = Ideal.exp (scores x wq k (ix4 0 h i j) - top x wq k (ix3 0 h i)) := by
  pointwise [expo]

theorem total_apply (i : Fin 4096) (h : Fin 8) : total x wq k (ix3 0 h i) = ∑ j : Fin 4096, expo x wq k (ix4 0 h i j) := by
  pointwise [total]

theorem divisor_apply (i : Fin 4096) (h : Fin 8) : divisor x wq k (ix4 0 h i 0) = Scalar.select (rowKeep (ix1 i)) (total x wq k (ix3 0 h i)) (Ideal.ofBits .f32 0x3F800000#32) := by
  pointwise [divisor, rowKeep4, id]

theorem rowKeep4_apply (i : Fin 4096) : rowKeep4 (ix4 0 0 i 0) = rowKeep (ix1 i) := by
  pointwise [rowKeep4]

theorem keep4_apply (i j : Fin 4096) (h : Fin 8) : keep4 (ix4 0 h i j) = rowKeep (ix1 i) := by
  pointwise [keep4, rowKeep4_apply]

theorem divisor4_apply (i j : Fin 4096) (h : Fin 8) : divisor4 x wq k (ix4 0 h i j) = divisor x wq k (ix4 0 h i 0) := by
  pointwise [divisor4]

theorem quot_apply (i j : Fin 4096) (h : Fin 8) : quot x wq k (ix4 0 h i j) = Ideal.div (expo x wq k (ix4 0 h i j)) (divisor x wq k (ix4 0 h i 0)) := by
  unfold quot
  rw [ValueIdx.hostDivf_apply, divisor4_apply]

theorem zero4_apply (i j : Fin 4096) (h : Fin 8) : zero4 (ix4 0 h i j) = 0 := by
  pointwise [zero4, id]

theorem weights_apply (i j : Fin 4096) (h : Fin 8) : weights x wq k (ix4 0 h i j)
    = Scalar.select (rowKeep (ix1 i)) (Ideal.div (expo x wq k (ix4 0 h i j)) (divisor x wq k (ix4 0 h i 0))) 0 := by
  unfold weights
  rw [ValueIdx.select_apply, keep4_apply, quot_apply, zero4_apply]

theorem attn_apply (i : Fin 4096) (h : Fin 8) (d : Fin 128) : attn x wq k v (ix4 0 h d i) = ∑ j : Fin 4096, v (ix4 0 j h d) * weights x wq k (ix4 0 h i j) := by
  pointwise [attn]

theorem out_apply (i : Fin 4096) (n : Fin 1024) : out x wq k v wo (ix3 0 i n)
    = ∑ t : Fin 1024, attn x wq k v (ix4 0 ⟨t.val / 128, by omega⟩ ⟨t.val % 128, by omega⟩ i) * wo (ix2 t n) := by
  pointwise [out]

end Cert.ReferenceIdeal.Stages

end
-- ==== Proof.Softmax.lean ====
module

public import Idealize.ShloMosaic.PureOps.Ideal
public import Idealize.ShloMosaic.Lib.Pointwise

@[expose] public section

/-!
# A masked softmax's average, with and without the maximum subtracted

Over finitely many keys, with real scores, a mask that keeps at least one key, and any values: the
average by weights that are exponentials of (score − greatest score), each divided by their sum, is
the sum of exponential-weighted values divided once by the sum of the exponentials.
-/

noncomputable section

namespace Cert.Attn

open Idealize.ShloMosaic

variable {ι : Type} [Fintype ι]

/-- The sum of real numbers, as extended reals. -/
theorem coe_sum {κ : Type} (s : Finset κ) (f : κ → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A factor that is real and not negative comes out of a sum of any extended reals. -/
theorem sum_mul_real {κ : Type} (s : Finset κ) (f : κ → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.mpr hc) (EReal.coe_ne_top c), ih]

/-- An extended real that is a real number. -/
def IsReal (x : EReal) : Prop := ∃ r : ℝ, x = (r : EReal)

theorem IsReal.of_ne {x : EReal} (h : x ≠ ⊤) (h' : x ≠ ⊥) : IsReal x := ⟨x.toReal, (EReal.coe_toReal h h').symm⟩
theorem IsReal.mul {x y : EReal} (hx : IsReal x) (hy : IsReal y) : IsReal (x * y) := by
  obtain ⟨a, rfl⟩ := hx
  obtain ⟨b, rfl⟩ := hy
  exact ⟨a * b, (EReal.coe_mul a b).symm⟩
theorem IsReal.sum {κ : Type} (s : Finset κ) (f : κ → EReal) (h : ∀ i, IsReal (f i)) : IsReal (∑ i ∈ s, f i) := by
  choose g hg using h
  exact ⟨∑ i ∈ s, g i, by rw [coe_sum]; exact Finset.sum_congr rfl fun i _ => hg i⟩

/-- Scaling every query by a number that is not negative scales the score. -/
theorem scale_out {κ : Type} (s : Finset κ) (q k : κ → EReal) (c : ℝ) (hc : 0 ≤ c) :
    ∑ d ∈ s, q d * (c : EReal) * k d = (∑ d ∈ s, q d * k d) * (c : EReal) := by
  rw [sum_mul_real s _ c hc]
  exact Finset.sum_congr rfl fun d _ => mul_right_comm _ _ _

/-- The greatest of a masked family of real scores is real where one of them is kept. -/
theorem top_real (keep : ι → Prop) [DecidablePred keep] (r : ι → ℝ) (hk : ∃ j, keep j) :
    IsReal (Finset.fold max (⊥ : EReal) (fun j => if keep j then (r j : EReal) else ⊥) Finset.univ) := by
  obtain ⟨j, hj⟩ := hk
  refine IsReal.of_ne (ne_of_lt ?_) (ne_of_gt ?_)
  · rw [Finset.fold_max_lt]
    refine ⟨bot_lt_top, fun x _ => ?_⟩
    by_cases h : keep x
    · rw [if_pos h]; exact EReal.coe_lt_top _
    · rw [if_neg h]; exact bot_lt_top
  · rw [Finset.lt_fold_max]
    refine Or.inr ⟨j, Finset.mem_univ j, ?_⟩
    rw [if_pos hj]; exact EReal.bot_lt_coe _

/-- The average by masked softmax weights, in both forms. -/
theorem average (keep : ι → Prop) [DecidablePred keep] (r : ι → ℝ) (hk : ∃ j, keep j) (v : ι → EReal)
    (s : ι → EReal) (hs : ∀ j, s j = if keep j then (r j : EReal) else ⊥) (M : EReal)
    (hM : M = Finset.fold max (⊥ : EReal) s Finset.univ) :
    ∑ j, v j * Ideal.div (Ideal.exp (s j - M)) (∑ k, Ideal.exp (s k - M))
      = Ideal.div (∑ j, Ideal.exp (s j) * v j) (∑ j, Ideal.exp (s j)) := by
  obtain rfl : s = fun j => if keep j then (r j : EReal) else ⊥ := funext hs
  obtain ⟨M', hM'⟩ := top_real keep r hk
  rw [hM'] at hM
  subst hM
  let e : ι → ℝ := fun j => if keep j then Real.exp (r j) else 0
  have he : ∀ j, Ideal.exp (if keep j then (r j : EReal) else ⊥) = (e j : EReal) := fun j => by
    by_cases h : keep j
    · simp only [e, if_pos h]; rfl
    · simp only [e, if_neg h]; rfl
  have he' : ∀ j, Ideal.exp ((if keep j then (r j : EReal) else ⊥) - (M' : EReal)) = ((e j * Real.exp (-M') : ℝ) : EReal) := fun j => by
    by_cases h : keep j
    · simp only [e, if_pos h]
      rw [← EReal.coe_sub, Ideal.exp_coe, ← Real.exp_add, sub_eq_add_neg]
    · simp only [e, if_neg h]
      rw [EReal.bot_sub, zero_mul]
      rfl
  have e0 : ∀ j, 0 ≤ e j := fun j => by
    by_cases h : keep j
    · simp only [e, if_pos h]; exact (Real.exp_pos _).le
    · simp only [e, if_neg h]; exact le_refl _
  have E0 : 0 < ∑ j, e j := by
    obtain ⟨j, hj⟩ := hk
    refine Finset.sum_pos' (fun j _ => e0 j) ⟨j, Finset.mem_univ j, ?_⟩
    simp only [e, if_pos hj]; exact Real.exp_pos _
  have E1 : 0 < ∑ j, e j * Real.exp (-M') := by
    rw [← Finset.sum_mul]; exact mul_pos E0 (Real.exp_pos _)
  simp only [he, he', ← coe_sum]
  rw [Ideal.div_coe E0.ne', sum_mul_real _ _ _ (one_div_pos.mpr E0).le]
  refine Finset.sum_congr rfl fun j _ => ?_
  rw [Ideal.div_coe E1.ne', ← EReal.coe_mul, mul_comm (e j : EReal) (v j), mul_assoc (v j), ← EReal.coe_mul]
  congr 2
  rw [← Finset.sum_mul]
  have := Real.exp_ne_zero (-M')
  field_simp

/-- A sum over four thousand and ninety-six keys, chunk by chunk. -/
theorem sum_chunks (f : Fin 4096 → EReal) :
    ∑ J : Fin 4096, f J = ∑ b : Fin 4, ∑ j : Fin 1024, f ⟨1024 * b.val + j.val, by omega⟩ := by
  rw [← Fintype.sum_prod_type' (fun (b : Fin 4) (j : Fin 1024) => f ⟨1024 * b.val + j.val, by omega⟩)]
  refine (Fintype.sum_equiv (finProdFinEquiv (m := 4) (n := 1024)) _ _ fun p => ?_).symm
  congr 1
  exact Fin.ext (Nat.add_comm _ _)

/-- One bit that is set makes the disjunction of all set. -/
theorem fold_ori {κ : Type} (s : Finset κ) (f : κ → BitVec 1) (a : κ) (ha : a ∈ s) (h : f a = 1#1) :
    Finset.fold IntOp.ori (0#1) f s = 1#1 := by
  classical
  have one : ∀ x y : BitVec 1, (x = 1#1 ∨ y = 1#1) → IntOp.ori x y = 1#1 := by decide
  induction s using Finset.induction_on with
  | empty => exact absurd ha (Finset.notMem_empty a)
  | insert b s hb ih =>
    rw [Finset.fold_insert hb]
    rcases Finset.mem_insert.mp ha with rfl | hs
    · exact one _ _ (Or.inl h)
    · exact one _ _ (Or.inr (ih hs))

/-- The score's scale is a number that is not negative. -/
theorem scale_real : ∃ c : ℝ, 0 ≤ c ∧ Ideal.ofBits .f32 0x3DB504F3#32 = (c : EReal) := by
  simp [Ideal.ofBits, Ideal.ieee]
  exact ⟨11863283 * ((2 : ℝ) ^ 27)⁻¹, by positivity, (EReal.coe_mul _ _).symm⟩

theorem neg_inf : Ideal.ofBits .f32 0xFF800000#32 = ⊥ := by simp [Ideal.ofBits, Ideal.ieee]

end Cert.Attn

end
-- ==== Proof.Meet.lean ====
module

public import proofs.«01_k».proof.Proof.KernVal
public import proofs.«01_k».proof.Proof.RefRead
public import proofs.«01_k».proof.Proof.Softmax

@[expose] public section

set_option maxRecDepth 16384

/-!
# The kernel's result is its block of the reference's

Where every device's arguments are its blocks of the reference's arrays, and the queries, the
query weights and the keys are real numbers, the kernel's scores are the reference's, its chunks
together are all the keys, and so its output is the reference's at its own rows.
-/

noncomputable section

namespace Cert.KernelIdeal.Ring

open Cert.KernelIdeal Cert.KernelIdeal.Gen
open Idealize.ShloMosaic Idealize.ShloMosaic.TcCoe
open Idealize.SL.Sem
open Cert.Attn Cert.ReferenceIdeal.Stages

variable (m : (ℓ : Loc nD τ sig) → Buf (Elt Ideal) ℓ)
variable (x : FVec Ideal Cert.ReferenceIdeal.S1x4096x1024 .bf16) (wq : FVec Ideal Cert.ReferenceIdeal.S1024x1024 .bf16)
  (k v : FVec Ideal Cert.ReferenceIdeal.S1x4096x8x128 .bf16) (wo : FVec Ideal Cert.ReferenceIdeal.S1024x1024 .bf16)

/-- Row `i` of device `c`, counted over all devices. -/
def gl (c : Dev nD) (i : Fin 1024) : Fin 4096 := ⟨1024 * c.val + i.val, by have : c.val < 4 := c.isLt; omega⟩

/-- What the two programs are given: the devices' arguments are blocks of the reference's, and what the
scores are made of is real. -/
structure Given : Prop where
  hx : ∀ c i t, aX m c (ix3 0 i t) = x (ix3 0 (gl c i) t)
  hwq : ∀ c t n, aWq m c (ix2 t n) = wq (ix2 t n)
  hk : ∀ c j h d, aK m c (ix4 0 j h d) = k (ix4 0 (gl c j) h d)
  hv : ∀ c j h d, aV m c (ix4 0 j h d) = v (ix4 0 (gl c j) h d)
  hwo : ∀ c t n, aWo m c (ix2 t n) = wo (ix2 t n)
  rx : ∀ I t, IsReal (x (ix3 0 I t))
  rwq : ∀ t n, IsReal (wq (ix2 t n))
  rk : ∀ J h d, IsReal (k (ix4 0 J h d))

variable {m x wq k v wo}

/-- The reference's score before the mask is a real number. -/
theorem dots_real (g : Given m x wq k v wo) (I J : Fin 4096) (h : Fin 8) : IsReal (dots x wq k (ix4 0 h I J)) := by
  rw [dots_apply]
  refine IsReal.sum _ _ fun d => IsReal.mul ?_ (g.rk J h d)
  rw [Q_apply]
  exact IsReal.sum _ _ fun t => IsReal.mul (g.rx I t) (g.rwq t _)

/-- The scaled score, as a number. -/
theorem scaled_real (g : Given m x wq k v wo) (I J : Fin 4096) (h : Fin 8) :
    IsReal (dots x wq k (ix4 0 h I J) * Ideal.ofBits .f32 0x3DB504F3#32) := by
  obtain ⟨c, _, hc⟩ := scale_real
  exact IsReal.mul (dots_real g I J h) ⟨c, hc⟩

/-- The reference's masked score. -/
theorem scores_kept (I J : Fin 4096) (h : Fin 8) :
    scores x wq k (ix4 0 h I J)
      = if Kept (I.val / 64) (J.val / 64) then dots x wq k (ix4 0 h I J) * Ideal.ofBits .f32 0x3DB504F3#32 else ⊥ := by
  rw [scores_apply, mask_apply, neg_inf]
  by_cases hk : Kept (I.val / 64) (J.val / 64)
  · rw [if_pos hk, if_pos (show _ ∨ _ ∨ _ from hk)]; rfl
  · rw [if_neg hk, if_neg (show ¬(_ ∨ _ ∨ _) from hk)]; rfl

/-- The kernel's score of a chunk's key is the reference's scaled score. -/
theorem chunkScore_eq (g : Given m x wq k v wo) (c : Dev nD) (s : ℕ) (h : Fin 8) (i j : Fin 1024) :
    chunkScore m c s h i j = dots x wq k (ix4 0 h (gl c i) (gl (back c s) j)) * Ideal.ofBits .f32 0x3DB504F3#32 := by
  obtain ⟨r, hr, er⟩ := scale_real
  unfold chunkScore
  rw [er, scale_out _ _ _ r hr, dots_apply]
  congr 1
  refine Finset.sum_congr rfl fun d _ => ?_
  rw [g.hk, Q_apply]
  congr 1
  refine Finset.sum_congr rfl fun t _ => ?_
  rw [g.hx, g.hwq]
  have e : col h d = ⟨h.val * 128 + d.val, by omega⟩ := Fin.ext (by simp only [col]; omega)
  rw [e]

/-- The kernel's weight of a chunk's key is the exponential of the reference's masked score. -/
theorem chunkExp_eq (g : Given m x wq k v wo) (c : Dev nD) (s : ℕ) (h : Fin 8) (i j : Fin 1024) :
    chunkExp m c s h i j = Ideal.exp (scores x wq k (ix4 0 h (gl c i) (gl (back c s) j))) := by
  unfold chunkExp biasVal
  rw [chunkScore_eq g, scores_kept]
  have e0 : (gl c i).val / 64 = i.val / 64 + 16 * c.val := by simp only [gl]; omega
  have e1 : (gl (back c s) j).val / 64 = j.val / 64 + 16 * (back c s).val := by simp only [gl]; omega
  rw [e0, e1]
  by_cases hk : Kept (i.val / 64 + 16 * c.val) (j.val / 64 + 16 * (back c s).val)
  · rw [if_pos hk, if_pos hk, add_zero]
  · rw [if_neg hk, if_neg hk, EReal.add_bot]

/-- The chunks that reach a device are all devices' chunks. -/
theorem back_bijective (c : Dev nD) : Function.Bijective fun s : Fin 4 => (back c s.val : Fin 4) := by
  revert c
  decide

/-- The sum over the chunks as they come is the sum over all the keys. -/
theorem sum_hops (c : Dev nD) (f : Fin 4096 → EReal) :
    ∑ s : Fin 4, ∑ j : Fin 1024, f (gl (back c s.val) j) = ∑ J : Fin 4096, f J := by
  rw [sum_chunks]
  exact (back_bijective c).sum_comp fun b : Fin 4 => ∑ j : Fin 1024, f ⟨1024 * b.val + j.val, by omega⟩

/-- Every row keeps a key: the first. -/
theorem rowKeep_one (I : Fin 4096) : rowKeep (ix1 I) = 1#1 := by
  rw [rowKeep_apply]
  refine fold_ori _ _ (0 : Fin 4096) (Finset.mem_univ _) ?_
  rw [mask_apply]
  exact if_pos (Or.inr (Or.inl (by decide)))

/-- The reference's context, as one quotient of sums. -/
theorem attn_quot (g : Given m x wq k v wo) (h : Fin 8) (d : Fin 128) (I : Fin 4096) :
    attn x wq k v (ix4 0 h d I)
      = Ideal.div (∑ J : Fin 4096, Ideal.exp (scores x wq k (ix4 0 h I J)) * v (ix4 0 J h d))
          (∑ J : Fin 4096, Ideal.exp (scores x wq k (ix4 0 h I J))) := by
  choose r hr using fun J => scaled_real g I J h
  rw [attn_apply, ← average (fun J : Fin 4096 => Kept (I.val / 64) (J.val / 64)) r ⟨0, Or.inr (Or.inl (by decide))⟩
    (fun J => v (ix4 0 J h d)) (fun J => scores x wq k (ix4 0 h I J)) (fun J => by rw [scores_kept, hr])
    (top x wq k (ix3 0 h I)) (by rw [top_apply, neg_inf])]
  refine Finset.sum_congr rfl fun J _ => ?_
  rw [weights_apply, divisor_apply, rowKeep_one, total_apply]
  simp only [expo_apply]
  rfl

/-- The kernel's context is the reference's. -/
theorem ctx_eq (g : Given m x wq k v wo) (c : Dev nD) (h : Fin 8) (i : Fin 1024) (d : Fin 128) :
    ctx m c (ix2 i (col h d)) = attn x wq k v (ix4 0 h d (gl c i)) := by
  rw [ctx_apply, attn_quot g,
    ← sum_hops c (fun J => Ideal.exp (scores x wq k (ix4 0 h (gl c i) J)) * v (ix4 0 J h d)),
    ← sum_hops c (fun J => Ideal.exp (scores x wq k (ix4 0 h (gl c i) J)))]
  unfold chunkAcc chunkDen
  simp only [chunkExp_eq g, g.hv]

/-- The kernel's output is the reference's. -/
theorem out_eq (g : Given m x wq k v wo) (c : Dev nD) (i n : Fin 1024) :
    outC m c (ix3 0 i n) = out x wq k v wo (ix3 0 (gl c i) n) := by
  have key : ∀ t : Fin 1024, ctx m c (ix2 i t) * aWo m c (ix2 t n)
      = attn x wq k v (ix4 0 ⟨t.val / 128, by omega⟩ ⟨t.val % 128, by omega⟩ (gl c i)) * wo (ix2 t n) := fun t => by
    have e : col ⟨t.val / 128, by omega⟩ ⟨t.val % 128, by omega⟩ = t := Fin.ext (by simp only [col]; omega)
    rw [g.hwo, ← ctx_eq g, e]
  rw [outC_apply, out_apply]
  exact congrArg (fun f : Fin 1024 → EReal => ∑ t, f t) (funext key)

end Cert.KernelIdeal.Ring

end
-- ==== Proof.PreRead.lean ====
module

public import proofs.«01_k».proof.Defs
public import proofs.«01_k».proof.Proof.Facts
public import proofs.«01_k».proof.Proof.Softmax
public import Idealize.ShloMosaic.Lib.ReduceAll

@[expose] public section

/-!
# What the precondition says

Every element of `x`, of `Wq` and of the keys is a real number.
-/

noncomputable section

namespace Cert.KernelIdeal.Ring

open Idealize.ShloMosaic Idealize.ShloMosaic.TcCoe
open Cert.Attn

/-- Both conjuncts of a bit that is set. -/
theorem andi_one : ∀ a b : BitVec 1, IntOp.andi a b = 1#1 → a = 1#1 ∧ b = 1#1 := by decide

/-- The bound the program compares with. -/
theorem bound_top : Ideal.ofBits .bf16 0x7F80#16 = ⊤ := by simp [Ideal.ofBits, Ideal.ieee]

/-- A number whose absolute value is below `⊤` is real. -/
theorem real_of_abs (x : EReal) (h : FloatOps.cmpf (F := Ideal) (φ := .bf16) .olt (FloatOps.absf (F := Ideal) (φ := .bf16) x) (Ideal.ofBits .bf16 0x7F80#16) = 1#1) :
    IsReal x := by
  rw [bound_top] at h
  have h' : Ideal.cmp .olt (max x (-x)) ⊤ = 1#1 := h
  have lt : max x (-x) < ⊤ := by
    by_contra hn
    simp [Ideal.cmp, hn] at h'
  refine IsReal.of_ne (fun e => ?_) (fun e => ?_)
  · exact absurd ((le_max_left x (-x)).trans_lt lt) (by rw [e]; exact lt_irrefl _)
  · exact absurd ((le_max_right x (-x)).trans_lt lt) (by rw [e]; exact lt_irrefl _)

instance : Subsingleton (Cert.Pre_finite_scores_KernelIdeal.S_).Idx := ⟨fun a b => funext fun i => i.elim0⟩

theorem pre_real (x wq k v wo) (h : @Cert.Pre_finite_scores_KernelIdeal.fn preFacts Ideal _ x wq k v wo = fun _ => 1#1) :
    (∀ i, IsReal (x i)) ∧ (∀ i, IsReal (wq i)) ∧ (∀ i, IsReal (k i)) := by
  have h0 := congrFun h (fun i => i.elim0)
  unfold Cert.Pre_finite_scores_KernelIdeal.fn at h0
  obtain ⟨h1, hk⟩ := andi_one _ _ h0
  obtain ⟨hx, hw⟩ := andi_one _ _ h1
  exact ⟨fun i => real_of_abs _ (Host.reduce_andi_all _ _ _ _ _ hx i), fun i => real_of_abs _ (Host.reduce_andi_all _ _ _ _ _ hw i),
    fun i => real_of_abs _ (Host.reduce_andi_all _ _ _ _ _ hk i)⟩

end Cert.KernelIdeal.Ring

end
-- ==== Proof.Agree.lean ====
module

public import proofs.«01_k».proof.Defs
public import proofs.«01_k».proof.Proof.Meet
public import proofs.«01_k».proof.Proof.PreRead
public import proofs.«01_k».proof.Proof.Gen.ReferenceIdeal.Run

@[expose] public section

set_option maxRecDepth 16384

/-!
# The two idealized programs leave the same result

From memories in which every device holds its blocks of the reference's arrays, and the precondition,
each device's result is its block of the reference's.
-/

noncomputable section

namespace Cert.KernelIdeal.Ring

open Cert.KernelIdeal Cert.KernelIdeal.Gen
open Idealize.ShloMosaic Idealize.ShloMosaic.TcCoe
open Idealize.SL.Sem
open Cert.Attn
open Cert.ReferenceIdeal.Stages (out)

/-- Device `c`'s block of an array cut along its rows, at an element. -/
theorem block3_apply (c : Dev nD) (f : Cert.ReferenceIdeal.S1x4096x1024.Idx → EReal) (i n : Fin 1024) :
    Layout.block ⟨3, ![1, 1024, 1024]⟩ ⟨3, ![1, 4096, 1024]⟩ 1 4 c f (by decide) (ix3 0 i n) = f (ix3 0 (gl c i) n) := by
  rw [Layout.block_apply]
  congr 1
  funext a
  apply Fin.ext
  rw [Layout.Tiles.idx_val]
  match a with
  | ⟨0, _⟩ => rfl
  | ⟨1, _⟩ => exact congrArg (· + i.val) (Nat.mul_comm _ _)
  | ⟨2, _⟩ => rfl

theorem block4_apply (c : Dev nD) (f : Cert.ReferenceIdeal.S1x4096x8x128.Idx → EReal) (j : Fin 1024) (h : Fin 8) (d : Fin 128) :
    Layout.block ⟨4, ![1, 1024, 8, 128]⟩ ⟨4, ![1, 4096, 8, 128]⟩ 1 4 c f (by decide) (ix4 0 j h d) = f (ix4 0 (gl c j) h d) := by
  rw [Layout.block_apply]
  congr 1
  funext a
  apply Fin.ext
  rw [Layout.Tiles.idx_val]
  match a with
  | ⟨0, _⟩ => rfl
  | ⟨1, _⟩ => exact congrArg (· + j.val) (Nat.mul_comm _ _)
  | ⟨2, _⟩ => rfl
  | ⟨3, _⟩ => rfl

/-- Every row of the whole array is a device's. -/
theorem gl_surj (I : Fin 4096) : ∃ (c : Dev nD) (i : Fin 1024), gl c i = I :=
  ⟨⟨I.val / 1024, by show I.val / 1024 < 4; omega⟩, ⟨I.val % 1024, by omega⟩, Fin.ext (by simp only [gl]; omega)⟩

/-- A device's result is its block of the reference's. -/
theorem result_block {m : (ℓ : Loc nD τ sig) → Buf (Elt Ideal) ℓ} {x wq k v wo} (g : Given m x wq k v wo) (c : Dev nD) :
    result m c = Layout.block ⟨3, ![1, 1024, 1024]⟩ ⟨3, ![1, 4096, 1024]⟩ 1 4 c (out x wq k v wo) (by decide) := by
  rw [result_eq]
  have key : ∀ i : S1x1024x1024.Idx, (outC m c : S1x1024x1024.Idx → EReal) i
      = Layout.block ⟨3, ![1, 1024, 1024]⟩ ⟨3, ![1, 4096, 1024]⟩ 1 4 c (out x wq k v wo) (by decide) i := fun i => by
    have e : i = ix3 0 (i 1) (i 2) := (eq_ix3 i).trans (congrArg (fun z : Fin 1 => ix3 z (i 1) (i 2)) (Subsingleton.elim _ _))
    rw [e]
    exact (out_eq g c (i 1) (i 2)).trans (block3_apply c _ (i 1) (i 2)).symm
  exact funext key

/-- The algebraic claim. -/
theorem agree : @Cert.algebraic_KernelIdeal_ReferenceIdeal_pre_finite_scores_KernelIdeal Cert.KernelIdeal.Gen.facts Cert.ReferenceIdeal.Gen.facts preFacts := by
  intro m g m' g' pre args
  have G : Given m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) := by
    have hx : ∀ (c : Dev nD) (i t : Fin 1024), aX m c (ix3 0 i t) = _ := fun c i t =>
      (congrFun (args c).1 (ix3 0 i t)).trans (block3_apply c _ i t)
    have hk : ∀ (c : Dev nD) (j : Fin 1024) (h : Fin 8) (d : Fin 128), aK m c (ix4 0 j h d) = _ := fun c j h d =>
      (congrFun (args c).2.2.1 (ix4 0 j h d)).trans (block4_apply c _ j h d)
    have hw : ∀ (c : Dev nD) (t n : Fin 1024), aWq m c (ix2 t n) = _ := fun c t n => congrFun (args c).2.1 (ix2 t n)
    refine ⟨hx, hw, hk, fun c j h d => (congrFun (args c).2.2.2.1 (ix4 0 j h d)).trans (block4_apply c _ j h d),
      fun c t n => congrFun (args c).2.2.2.2 (ix2 t n), fun I t => ?_, fun t n => ?_, fun J h d => ?_⟩
    · obtain ⟨c, i, rfl⟩ := gl_surj I
      rw [← hx c i t]
      exact (pre_real _ _ _ _ _ (pre c)).1 _
    · rw [← hw 0 t n]
      exact (pre_real _ _ _ _ _ (pre 0)).2.1 _
    · obtain ⟨c, j, rfl⟩ := gl_surj J
      rw [← hk c j h d]
      exact (pre_real _ _ _ _ _ (pre c)).2.2 _
  refine ⟨_, (θ_run Cert.KernelIdeal.defs _ _).mono (fun r h c => ⟨(h.1 c).1.trans (result_block G c), (h.1 c).2⟩) (run_all m g),
    (θ_run Cert.ReferenceIdeal.defs _ _).mono (fun r h => ⟨(h 0).1.trans (Cert.ReferenceIdeal.Stages.result_eq m' 0), (h 0).2⟩)
      (Cert.ReferenceIdeal.Value.run m' g')⟩

end Cert.KernelIdeal.Ring

end
-- ==== Proof.lean ====
/-
The claims of `Cert.Claim`: the frames of the printed kernel, of its idealized form and of the reference, that
the idealization names the mask's constant, and that the two idealized programs leave the same result.
-/
module

public import proofs.«01_k».proof.Defs
public import proofs.«01_k».proof.Proof.Frames
public import proofs.«01_k».proof.Proof.Facts
public import proofs.«01_k».proof.Proof.Agree
public import proofs.«01_k».proof.Proof.Gen.Kernel
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The reference, whatever its arrays hold, leaves them unchanged and every counter at zero. -/
theorem reference_frame : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run m g)

/-- The idealized kernel likewise. -/
theorem ideal_frame : Cert.quiescent_KernelIdeal (hKernelIdeal := Cert.KernelIdeal.Gen.facts) := fun m g _ =>
  (θ_run Cert.KernelIdeal.defs _ _).mono (fun _ h => ⟨fun c => (h.1 c).2, h.2⟩) (Cert.KernelIdeal.Ring.run_all m g)

theorem claim : Cert.Claim :=
  ⟨Cert.Kernel.Gen.facts, Cert.KernelIdeal.Gen.facts, Cert.ReferenceIdeal.Gen.facts,
    Cert.KernelIdeal.Ring.preFacts, Cert.KernelIdeal.Ring.preFactsWhole,
    fun m g _ => Cert.KernelIdeal.Ring.printed_run m g,
    ideal_frame, fun m g _ => ideal_frame m g trivial,
    reference_frame, fun m g _ => reference_frame m g trivial,
    IdealRules.named_const.statement _ _ _ _ _ rfl,
    Cert.KernelIdeal.Ring.agree⟩

end Cert.Proof

end
